-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v1_0)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v2_0)) (v6 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v1_0) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v2_0) = v5 c
          ∧ r.2.mem ((c.tc : Thread Cert.KernelIdeal.nD Cert.KernelIdeal.τ).loc Cert.KernelIdeal.main_v11) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x4096 : Shape := ⟨3, ![8, 4096, 4096]⟩
abbrev S8x4096x512 : Shape := ⟨3, ![8, 4096, 512]⟩
abbrev S8x16x4096x256 : Shape := ⟨4, ![8, 16, 4096, 256]⟩
abbrev S8x32x16x128 : Shape := ⟨4, ![8, 32, 16, 128]⟩
abbrev S1x128x4096 : Shape := ⟨3, ![1, 128, 4096]⟩
abbrev S1x16x128x256 : Shape := ⟨4, ![1, 16, 128, 256]⟩
abbrev S1x1x16x128 : Shape := ⟨4, ![1, 1, 16, 128]⟩
abbrev S1x128x256 : Shape := ⟨3, ![1, 128, 256]⟩
abbrev S128x256 : Shape := ⟨2, ![128, 256]⟩
abbrev S1 : Shape := ⟨1, ![1]⟩
abbrev S1x1x1 : Shape := ⟨3, ![1, 1, 1]⟩
abbrev S1x1 : Shape := ⟨2, ![1, 1]⟩
abbrev S1x252 : Shape := ⟨2, ![1, 252]⟩
abbrev S1x1x128x256 : Shape := ⟨4, ![1, 1, 128, 256]⟩
abbrev S1x128 : Shape := ⟨2, ![1, 128]⟩
abbrev S1x1x1x128 : Shape := ⟨4, ![1, 1, 1, 128]⟩
abbrev S8x2x4096x256 : Shape := ⟨4, ![8, 2, 4096, 256]⟩
abbrev S8x32x2x128 : Shape := ⟨4, ![8, 32, 2, 128]⟩
abbrev S1x128x512 : Shape := ⟨3, ![1, 128, 512]⟩
abbrev S1x2x128x256 : Shape := ⟨4, ![1, 2, 128, 256]⟩
abbrev S1x1x2x128 : Shape := ⟨4, ![1, 1, 2, 128]⟩
abbrev S8x2x256x4096 : Shape := ⟨4, ![8, 2, 256, 4096]⟩
abbrev S1x2x256x128 : Shape := ⟨4, ![1, 2, 256, 128]⟩
abbrev S256x128 : Shape := ⟨2, ![256, 128]⟩
abbrev S1x1x256x128 : Shape := ⟨4, ![1, 1, 256, 128]⟩
abbrev S8x32x16x1 : Shape := ⟨4, ![8, 32, 16, 1]⟩
abbrev S8x32x16 : Shape := ⟨3, ![8, 32, 16]⟩
abbrev S8x16x32 : Shape := ⟨3, ![8, 16, 32]⟩
abbrev S8x32x2x1 : Shape := ⟨4, ![8, 32, 2, 1]⟩
abbrev S8x32x2 : Shape := ⟨3, ![8, 32, 2]⟩
abbrev S8x2x32 : Shape := ⟨3, ![8, 2, 32]⟩
abbrev S1x8x128x256 : Shape := ⟨4, ![1, 8, 128, 256]⟩
abbrev S1x1x8x128 : Shape := ⟨4, ![1, 1, 8, 128]⟩
abbrev S1x1x4096x256 : Shape := ⟨4, ![1, 1, 4096, 256]⟩
abbrev S1x1x256x4096 : Shape := ⟨4, ![1, 1, 256, 4096]⟩
abbrev S1x128x2048 : Shape := ⟨3, ![1, 128, 2048]⟩
abbrev S256x1024 : Shape := ⟨2, ![256, 1024]⟩
abbrev S8x128x256 : Shape := ⟨3, ![8, 128, 256]⟩
abbrev S1024x256 : Shape := ⟨2, ![1024, 256]⟩
abbrev S8x128 : Shape := ⟨2, ![8, 128]⟩
abbrev S128x1024 : Shape := ⟨2, ![128, 1024]⟩
abbrev S128x128 : Shape := ⟨2, ![128, 128]⟩
abbrev S128 : Shape := ⟨1, ![128]⟩
abbrev S8 : Shape := ⟨1, ![8]⟩
abbrev S8x1 : Shape := ⟨2, ![8, 1]⟩
abbrev S8x252 : Shape := ⟨2, ![8, 252]⟩

abbrev nBuf : Space → Nat
  | .hbm => 20
  | .vmem => 31
  | .smem => 2
  | _ => 0

abbrev bufTy : (tb : Table) → Fin (tcTables nBuf tb) → BufTy
  | .hbm, ⟨0, _⟩ => ⟨S8x4096x4096, .bf16⟩
  | .hbm, ⟨1, _⟩ => ⟨S8x4096x512, .bf16⟩
  | .hbm, ⟨2, _⟩ => ⟨S8x4096x512, .bf16⟩
  | .hbm, ⟨3, _⟩ => ⟨S8x16x4096x256, .fp8e4m3⟩
  | .hbm, ⟨4, _⟩ => ⟨S8x32x16x128, .f32⟩
  | .hbm, ⟨5, _⟩ => ⟨S8x2x4096x256, .fp8e4m3⟩
  | .hbm, ⟨6, _⟩ => ⟨S8x32x2x128, .f32⟩
  | .hbm, ⟨7, _⟩ => ⟨S8x2x4096x256, .fp8e4m3⟩
  | .hbm, ⟨8, _⟩ => ⟨S8x32x2x128, .f32⟩
  | .hbm, ⟨9, _⟩ => ⟨S8x2x256x4096, .fp8e4m3⟩
  | .hbm, ⟨10, _⟩ => ⟨S8x32x16x1, .f32⟩
  | .hbm, ⟨11, _⟩ => ⟨S8x32x16, .f32⟩
  | .hbm, ⟨12, _⟩ => ⟨S8x16x32, .f32⟩
  | .hbm, ⟨13, _⟩ => ⟨S8x32x2x1, .f32⟩
  | .hbm, ⟨14, _⟩ => ⟨S8x32x2, .f32⟩
  | .hbm, ⟨15, _⟩ => ⟨S8x2x32, .f32⟩
  | .hbm, ⟨16, _⟩ => ⟨S8x32x2x1, .f32⟩
  | .hbm, ⟨17, _⟩ => ⟨S8x32x2, .f32⟩
  | .hbm, ⟨18, _⟩ => ⟨S8x2x32, .f32⟩
  | .hbm, ⟨19, _⟩ => ⟨S8x4096x4096, .bf16⟩
  | .local _ .vmem, ⟨0, _⟩ => ⟨S1x128x4096, .bf16⟩
  | .local _ .vmem, ⟨1, _⟩ => ⟨S1x128x4096, .bf16⟩
  | .local _ .vmem, ⟨2, _⟩ => ⟨S1x16x128x256, .fp8e4m3⟩
  | .local _ .vmem, ⟨3, _⟩ => ⟨S1x16x128x256, .fp8e4m3⟩
  | .local _ .vmem, ⟨4, _⟩ => ⟨S1x1x16x128, .f32⟩
  | .local _ .vmem, ⟨5, _⟩ => ⟨S1x1x16x128, .f32⟩
  | .local _ .vmem, ⟨6, _⟩ => ⟨S1x128x512, .bf16⟩
  | .local _ .vmem, ⟨7, _⟩ => ⟨S1x128x512, .bf16⟩
  | .local _ .vmem, ⟨8, _⟩ => ⟨S1x2x128x256, .fp8e4m3⟩
  | .local _ .vmem, ⟨9, _⟩ => ⟨S1x2x128x256, .fp8e4m3⟩
  | .local _ .vmem, ⟨10, _⟩ => ⟨S1x1x2x128, .f32⟩
  | .local _ .vmem, ⟨11, _⟩ => ⟨S1x1x2x128, .f32⟩
  | .local _ .vmem, ⟨12, _⟩ => ⟨S1x128x512, .bf16⟩
  | .local _ .vmem, ⟨13, _⟩ => ⟨S1x128x512, .bf16⟩
  | .local _ .vmem, ⟨14, _⟩ => ⟨S1x2x128x256, .fp8e4m3⟩
  | .local _ .vmem, ⟨15, _⟩ => ⟨S1x2x128x256, .fp8e4m3⟩
  | .local _ .vmem, ⟨16, _⟩ => ⟨S1x1x2x128, .f32⟩
  | .local _ .vmem, ⟨17, _⟩ => ⟨S1x1x2x128, .f32⟩
  | .local _ .vmem, ⟨18, _⟩ => ⟨S1x2x256x128, .fp8e4m3⟩
  | .local _ .vmem, ⟨19, _⟩ => ⟨S1x2x256x128, .fp8e4m3⟩
  | .local _ .vmem, ⟨20, _⟩ => ⟨S1x8x128x256, .fp8e4m3⟩
  | .local _ .vmem, ⟨21, _⟩ => ⟨S1x8x128x256, .fp8e4m3⟩
  | .local _ .vmem, ⟨22, _⟩ => ⟨S1x1x8x128, .f32⟩
  | .local _ .vmem, ⟨23, _⟩ => ⟨S1x1x8x128, .f32⟩
  | .local _ .vmem, ⟨24, _⟩ => ⟨S1x1x4096x256, .fp8e4m3⟩
  | .local _ .vmem, ⟨25, _⟩ => ⟨S1x1x4096x256, .fp8e4m3⟩
  | .local _ .vmem, ⟨26, _⟩ => ⟨S1x1x256x4096, .fp8e4m3⟩
  | .local _ .vmem, ⟨27, _⟩ => ⟨S1x1x256x4096, .fp8e4m3⟩
  | .local _ .vmem, ⟨28, _⟩ => ⟨S1x128x2048, .bf16⟩
  | .local _ .vmem, ⟨29, _⟩ => ⟨S1x128x2048, .bf16⟩
  | .local _ .vmem, ⟨30, _⟩ => ⟨S256x1024, .f32⟩
  | .local _ .smem, ⟨0, _⟩ => ⟨S8x2x32, .f32⟩
  | .local _ .smem, ⟨1, _⟩ => ⟨S8x2x32, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg5_1 : Ref sig .tc := ⟨.vmem, 27, rfl⟩
abbrev cc3_stg6_0 : Ref sig .tc := ⟨.vmem, 28, rfl⟩
abbrev cc3_stg6_1 : Ref sig .tc := ⟨.vmem, 29, rfl⟩
abbrev cc3_scratch0 : Ref sig .tc := ⟨.vmem, 30, rfl⟩
abbrev cc3_stg0_0 : Ref sig .tc := ⟨.smem, 0, rfl⟩
abbrev cc3_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2x128x256 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 32], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage2_0 : Fin 2 → Memref sig .tc .vmem S1x128x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2x128x256 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x2x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2x256x128 .fp8e4m3 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![8, 2, 32], ![false, false, false]⟩

@[reducible] def k3_t1_loop (i : grid3.Coords) : Scf.Loop 32 :=
  let c0_i32 : BitVec 32 := 0#32
  let arg2 : BitVec 32 := BitVec.ofNat 32 (i 2).val
  let v13 : BitVec 32 := Scalar.subi arg2 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_12 : BitVec 32 := 1#32
  ⟨c0_i32, v17, c1_i32_12⟩
def k3_mult1 (i : grid3.Coords) (k3_t1 : Fin (k3_t1_loop i).trips) : BitVec 32 :=
  let c0_i32 : BitVec 32 := 0#32
  let c1_i32_12 : BitVec 32 := 1#32
  let arg11 : BitVec 32 := Scf.iv c0_i32 c1_i32_12 k3_t1
  let c128_i32_147 : BitVec 32 := 128#32
  let v509 : BitVec 32 := Scalar.muli arg11 c128_i32_147
  v509
def k3_off1 (i : grid3.Coords) (k3_t1 : Fin (k3_t1_loop i).trips) : Fin 4 → Nat :=
  let c0_148 : Index := 0#32
  let c0_149 : Index := 0#32
  let c0_i32 : BitVec 32 := 0#32
  let c1_i32_12 : BitVec 32 := 1#32
  let arg11 : BitVec 32 := Scf.iv c0_i32 c1_i32_12 k3_t1
  let c128_i32_147 : BitVec 32 := 128#32
  let v509 : BitVec 32 := Scalar.muli arg11 c128_i32_147
  let v510 : BitVec 32 := v509
  let v511 : Index := Scalar.indexCast v510
  let c0_150 : Index := 0#32
  ![0, 0, v511.toNat, 0]
def k3_mult2 (i : grid3.Coords) (k3_t1 : Fin (k3_t1_loop i).trips) : BitVec 32 :=
  let c0_i32 : BitVec 32 := 0#32
  let c1_i32_12 : BitVec 32 := 1#32
  let arg11 : BitVec 32 := Scf.iv c0_i32 c1_i32_12 k3_t1
  let c128_i32_151 : BitVec 32 := 128#32
  let v514 : BitVec 32 := Scalar.muli arg11 c128_i32_151
  v514
def k3_off2 (i : grid3.Coords) (k3_t1 : Fin (k3_t1_loop i).trips) : Fin 4 → Nat :=
  let c0_152 : Index := 0#32
  let c0_153 : Index := 0#32
  let c0_154 : Index := 0#32
  let c0_i32 : BitVec 32 := 0#32
  let c1_i32_12 : BitVec 32 := 1#32
  let arg11 : BitVec 32 := Scf.iv c0_i32 c1_i32_12 k3_t1
  let c128_i32_151 : BitVec 32 := 128#32
  let v514 : BitVec 32 := Scalar.muli arg11 c128_i32_151
  let v515 : BitVec 32 := v514
  let v516 : Index := Scalar.indexCast v515
  ![0, 0, 0, v516.toNat]
def k3_off3 (i : grid3.Coords) (k3_t1 : Fin (k3_t1_loop i).trips) : Fin 3 → Nat :=
  let arg0 : BitVec 32 := BitVec.ofNat 32 (i 0).val
  let v528 : Index := Scalar.indexCast arg0
  let arg1 : BitVec 32 := BitVec.ofNat 32 (i 1).val
  let v529 : Index := Scalar.indexCast arg1
  let c0_i32 : BitVec 32 := 0#32
  let c1_i32_12 : BitVec 32 := 1#32
  let arg11 : BitVec 32 := Scf.iv c0_i32 c1_i32_12 k3_t1
  let v530 : Index := Scalar.indexCast arg11
  ![v528.toNat, v529.toNat, v530.toNat]
@[reducible] def k3_t2_loop (i : grid3.Coords) : Scf.Loop 32 :=
  let c0_i32 : BitVec 32 := 0#32
  let arg2 : BitVec 32 := BitVec.ofNat 32 (i 2).val
  let v13 : BitVec 32 := Scalar.subi arg2 c0_i32
  let c1_i32 : BitVec 32 := 1#32
  let v15 : BitVec 32 := Scalar.divsi v13 c1_i32
  let v16 : BitVec 32 := Scalar.muli v15 c1_i32
  let v17 : BitVec 32 := Scalar.addi c0_i32 v16
  let v14 : BitVec 32 := Scalar.addi c0_i32 v13
  let c1_i32_13 : BitVec 32 := 1#32
  ⟨v17, v14, c1_i32_13⟩
def k3_mult3 (i : grid3.Coords) (k3_t2 : Fin (k3_t2_loop i).trips) : BitVec 32 :=
  let c0_i32 : BitVec 32 := 0#32
  let arg2 : BitVec 32 := BitVec.ofNat 32 (i 2).val
  let v13 : BitVec 32 := Scalar.subi arg2 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_13 : BitVec 32 := 1#32
  let arg11 : BitVec 32 := Scf.iv v17 c1_i32_13 k3_t2
  let c128_i32_147 : BitVec 32 := 128#32
  let v509 : BitVec 32 := Scalar.muli arg11 c128_i32_147
  v509
def k3_off4 (i : grid3.Coords) (k3_t2 : Fin (k3_t2_loop i).trips) : Fin 4 → Nat :=
  let c0_148 : Index := 0#32
  let c0_149 : Index := 0#32
  let c0_i32 : BitVec 32 := 0#32
  let arg2 : BitVec 32 := BitVec.ofNat 32 (i 2).val
  let v13 : BitVec 32 := Scalar.subi arg2 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_13 : BitVec 32 := 1#32
  let arg11 : BitVec 32 := Scf.iv v17 c1_i32_13 k3_t2
  let c128_i32_147 : BitVec 32 := 128#32
  let v509 : BitVec 32 := Scalar.muli arg11 c128_i32_147
  let v510 : BitVec 32 := v509
  let v511 : Index := Scalar.indexCast v510
  let c0_150 : Index := 0#32
  ![0, 0, v511.toNat, 0]
def k3_mult4 (i : grid3.Coords) (k3_t2 : Fin (k3_t2_loop i).trips) : BitVec 32 :=
  let c0_i32 : BitVec 32 := 0#32
  let arg2 : BitVec 32 := BitVec.ofNat 32 (i 2).val
  let v13 : BitVec 32 := Scalar.subi arg2 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_13 : BitVec 32 := 1#32
  let arg11 : BitVec 32 := Scf.iv v17 c1_i32_13 k3_t2
  let c128_i32_151 : BitVec 32 := 128#32
  let v514 : BitVec 32 := Scalar.muli arg11 c128_i32_151
  v514
def k3_off5 (i : grid3.Coords) (k3_t2 : Fin (k3_t2_loop i).trips) : Fin 4 → Nat :=
  let c0_152 : Index := 0#32
  let c0_153 : Index := 0#32
  let c0_154 : Index := 0#32
  let c0_i32 : BitVec 32 := 0#32
  let arg2 : BitVec 32 := BitVec.ofNat 32 (i 2).val
  let v13 : BitVec 32 := Scalar.subi arg2 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_13 : BitVec 32 := 1#32
  let arg11 : BitVec 32 := Scf.iv v17 c1_i32_13 k3_t2
  let c128_i32_151 : BitVec 32 := 128#32
  let v514 : BitVec 32 := Scalar.muli arg11 c128_i32_151
  let v515 : BitVec 32 := v514
  let v516 : Index := Scalar.indexCast v515
  ![0, 0, 0, v516.toNat]
def k3_off6 (i : grid3.Coords) (k3_t2 : Fin (k3_t2_loop i).trips) : Fin 3 → Nat :=
  let arg0 : BitVec 32 := BitVec.ofNat 32 (i 0).val
  let v528 : Index := Scalar.indexCast arg0
  let arg1 : BitVec 32 := BitVec.ofNat 32 (i 1).val
  let v529 : Index := Scalar.indexCast arg1
  let c0_i32 : BitVec 32 := 0#32
  let arg2 : BitVec 32 := BitVec.ofNat 32 (i 2).val
  let v13 : BitVec 32 := Scalar.subi arg2 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_13 : BitVec 32 := 1#32
  let arg11 : BitVec 32 := Scf.iv v17 c1_i32_13 k3_t2
  let v530 : Index := Scalar.indexCast arg11
  ![v528.toNat, v529.toNat, v530.toNat]
def k3_mult5 (i : grid3.Coords) : BitVec 32 :=
  let arg2 : BitVec 32 := BitVec.ofNat 32 (i 2).val
  let c128_i32 : BitVec 32 := 128#32
  let v20 : BitVec 32 := Scalar.muli arg2 c128_i32
  v20
def k3_off7 (i : grid3.Coords) : Fin 4 → Nat :=
  let c0_14 : Index := 0#32
  let c0_15 : Index := 0#32
  let arg2 : BitVec 32 := BitVec.ofNat 32 (i 2).val
  let c128_i32 : BitVec 32 := 128#32
  let v20 : BitVec 32 := Scalar.muli arg2 c128_i32
  let v21 : BitVec 32 := v20
  let v22 : Index := Scalar.indexCast v21
  let c0_16 : Index := 0#32
  ![0, 0, v22.toNat, 0]
def k3_mult6 (i : grid3.Coords) : BitVec 32 :=
  let arg2 : BitVec 32 := BitVec.ofNat 32 (i 2).val
  let c128_i32_17 : BitVec 32 := 128#32
  let v25 : BitVec 32 := Scalar.muli arg2 c128_i32_17
  v25
def k3_off8 (i : grid3.Coords) : Fin 4 → Nat :=
  let c0_18 : Index := 0#32
  let c0_19 : Index := 0#32
  let c0_20 : Index := 0#32
  let arg2 : BitVec 32 := BitVec.ofNat 32 (i 2).val
  let c128_i32_17 : BitVec 32 := 128#32
  let v25 : BitVec 32 := Scalar.muli arg2 c128_i32_17
  let v26 : BitVec 32 := v25
  let v27 : Index := Scalar.indexCast v26
  ![0, 0, 0, v27.toNat]
def k3_off9 (i : grid3.Coords) : Fin 3 → Nat :=
  let arg0 : BitVec 32 := BitVec.ofNat 32 (i 0).val
  let v65 : Index := Scalar.indexCast arg0
  let arg1 : BitVec 32 := BitVec.ofNat 32 (i 1).val
  let v66 : Index := Scalar.indexCast arg1
  let arg2 : BitVec 32 := BitVec.ofNat 32 (i 2).val
  let v67 : Index := Scalar.indexCast arg2
  ![v65.toNat, v66.toNat, v67.toNat]
def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_5 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage3_0 : Fin 1 → Memref sig .tc .smem S8x2x32 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false, false]

abbrev stage3_1 : Fin 1 → Memref sig .tc .smem S8x2x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false, false]

abbrev stage3_2 : Fin 2 → Memref sig .tc .vmem S1x8x128x256 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1x1x8x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x1x4096x256 .fp8e4m3 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1x1x256x4096 .fp8e4m3 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S1x128x2048 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4096x4096 : Shape := ⟨3, ![8, 4096, 4096]⟩
abbrev S8x4096x512 : Shape := ⟨3, ![8, 4096, 512]⟩
abbrev S8x16x4096x256 : Shape := ⟨4, ![8, 16, 4096, 256]⟩
abbrev S8x16x32 : Shape := ⟨3, ![8, 16, 32]⟩
abbrev S8x2x4096x256 : Shape := ⟨4, ![8, 2, 4096, 256]⟩
abbrev S8x2x32 : Shape := ⟨3, ![8, 2, 32]⟩
abbrev S8x32x128x16x256 : Shape := ⟨5, ![8, 32, 128, 16, 256]⟩
abbrev S8x16x32x128x256 : Shape := ⟨5, ![8, 16, 32, 128, 256]⟩
abbrev S8x16x32x1x1 : Shape := ⟨5, ![8, 16, 32, 1, 1]⟩
abbrev S8x32x128x2x256 : Shape := ⟨5, ![8, 32, 128, 2, 256]⟩
abbrev S8x2x32x128x256 : Shape := ⟨5, ![8, 2, 32, 128, 256]⟩
abbrev S8x2x32x1x1 : Shape := ⟨5, ![8, 2, 32, 1, 1]⟩
abbrev S16x32768x256 : Shape := ⟨3, ![16, 32768, 256]⟩
abbrev S16x8x32 : Shape := ⟨3, ![16, 8, 32]⟩
abbrev S16x8x32x1x1 : Shape := ⟨5, ![16, 8, 32, 1, 1]⟩
abbrev S16x8x32x128x128 : Shape := ⟨5, ![16, 8, 32, 128, 128]⟩
abbrev S16x8x32x128 : Shape := ⟨4, ![16, 8, 32, 128]⟩
abbrev S16x8x32x128x256 : Shape := ⟨5, ![16, 8, 32, 128, 256]⟩
abbrev S8x2x128x256 : Shape := ⟨4, ![8, 2, 128, 256]⟩
abbrev S16x128x256 : Shape := ⟨3, ![16, 128, 256]⟩
abbrev S8x2x1 : Shape := ⟨3, ![8, 2, 1]⟩
abbrev S16x1x1x1x1 : Shape := ⟨5, ![16, 1, 1, 1, 1]⟩
abbrev S16x32768x128 : Shape := ⟨3, ![16, 32768, 128]⟩
abbrev S16x8x32x128x1 : Shape := ⟨5, ![16, 8, 32, 128, 1]⟩
abbrev S8x2x8x32x128x256 : Shape := ⟨6, ![8, 2, 8, 32, 128, 256]⟩
abbrev S8x32x128x2x8x256 : Shape := ⟨6, ![8, 32, 128, 2, 8, 256]⟩

abbrev nBuf : Space → Nat
  | .hbm => 10
  | .vmem => 10
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x512, .bf16⟩
  | .hbm, ⟨2, _⟩ => ⟨S8x4096x512, .bf16⟩
  | .hbm, ⟨3, _⟩ => ⟨S8x4096x4096, .bf16⟩
  | .hbm, ⟨4, _⟩ => ⟨S8x16x4096x256, .fp8e4m3⟩
  | .hbm, ⟨5, _⟩ => ⟨S8x16x32, .f32⟩
  | .hbm, ⟨6, _⟩ => ⟨S8x2x4096x256, .fp8e4m3⟩
  | .hbm, ⟨7, _⟩ => ⟨S8x2x32, .f32⟩
  | .hbm, ⟨8, _⟩ => ⟨S8x2x4096x256, .fp8e4m3⟩
  | .hbm, ⟨9, _⟩ => ⟨S8x2x32, .f32⟩
  | .local _ .vmem, ⟨0, _⟩ => ⟨S8x4096x4096, .bf16⟩
  | .local _ .vmem, ⟨1, _⟩ => ⟨S8x4096x512, .bf16⟩
  | .local _ .vmem, ⟨2, _⟩ => ⟨S8x4096x512, .bf16⟩
  | .local _ .vmem, ⟨3, _⟩ => ⟨S8x4096x4096, .bf16⟩
  | .local _ .vmem, ⟨4, _⟩ => ⟨S8x16x4096x256, .fp8e4m3⟩
  | .local _ .vmem, ⟨5, _⟩ => ⟨S8x16x32, .f32⟩
  | .local _ .vmem, ⟨6, _⟩ => ⟨S8x2x4096x256, .fp8e4m3⟩
  | .local _ .vmem, ⟨7, _⟩ => ⟨S8x2x32, .f32⟩
  | .local _ .vmem, ⟨8, _⟩ => ⟨S8x2x4096x256, .fp8e4m3⟩
  | .local _ .vmem, ⟨9, _⟩ => ⟨S8x2x32, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v129 : BitVec 32 := Scalar.addi c0_i32 c32_i32
  let c1_i32 : BitVec 32 := 1#32
  ⟨c0_i32, v129, c1_i32⟩
def k0_off1 (k0_t1 : Fin k0_t1_loop.trips) : Fin 4 → Nat :=
  let c0_69 : Index := 0#32
  let c0_70 : Index := 0#32
  let c0_i32 : BitVec 32 := 0#32
  let c1_i32 : BitVec 32 := 1#32
  let arg10 : BitVec 32 := Scf.iv c0_i32 c1_i32 k0_t1
  let c128_i32_68 : BitVec 32 := 128#32
  let v139 : BitVec 32 := Scalar.muli arg10 c128_i32_68
  let v140 : Index := Scalar.indexCast v139
  let c0_71 : Index := 0#32
  ![0, 0, v140.toNat, 0]
def k0_off2 (k0_t1 : Fin k0_t1_loop.trips) : Fin 3 → Nat :=
  let c0_76 : Index := 0#32
  let c0_77 : Index := 0#32
  let c0_i32 : BitVec 32 := 0#32
  let c1_i32 : BitVec 32 := 1#32
  let arg10 : BitVec 32 := Scf.iv c0_i32 c1_i32 k0_t1
  let v149 : Index := Scalar.indexCast arg10
  ![0, 0, v149.toNat]
abbrev stage0_0 : Fin 1 → Memref sig .tc .vmem S8x4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x16x4096x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2x4096x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2x4096x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Expo.lean ====
/-
  The scale exponent of the 8-bit quantiser over the extended reals: the number of powers of two not above the value,
  which is the floor of its base-2 logarithm plus one, cut off at the ends of the exponent range.
-/
module

public import Idealize.ShloMosaic.Lib.Pointwise
public import Idealize.ShloMosaic.Lib.IdealHost
public import Idealize.ShloMosaic.PureOps.Ideal

@[expose] public section

noncomputable section

namespace Cert.Expo

open Idealize.ShloMosaic

/-- The power of two `2^z`, as an extended real. -/
def pw (z : ℤ) : EReal := (((2 : ℝ) ^ z : ℝ) : EReal)

theorem pw_pos (z : ℤ) : 0 < pw z := by
  unfold pw; exact_mod_cast zpow_pos (by norm_num : (0 : ℝ) < 2) z
theorem pw_ne_zero (z : ℤ) : pw z ≠ 0 := (pw_pos z).ne'
theorem pw_ne_top (z : ℤ) : pw z ≠ ⊤ := EReal.coe_ne_top _
theorem pw_ne_bot (z : ℤ) : pw z ≠ ⊥ := EReal.coe_ne_bot _

/-- The exponent: how many of the 252 powers `2^(-126), …, 2^125` are not above `t`, less 126; zero at zero. -/
def sexp (t : EReal) : ℤ := if t = 0 then 0 else ((Finset.univ.filter fun i : Fin 252 => pw ((i.val : ℤ) - 126) ≤ t).card : ℤ) - 126

theorem sexp_le (t : EReal) : sexp t ≤ 126 := by
  unfold sexp; split
  · norm_num
  · have := Finset.card_le_univ (Finset.univ.filter fun i : Fin 252 => pw ((i.val : ℤ) - 126) ≤ t)
    simp only [Fintype.card_fin] at this; omega
theorem le_sexp (t : EReal) : -126 ≤ sexp t := by
  unfold sexp; split
  · norm_num
  · have := Nat.zero_le (Finset.univ.filter fun i : Fin 252 => pw ((i.val : ℤ) - 126) ≤ t).card
    omega

/-- Counting the indices below a bound. -/
theorem card_le_int (n : ℤ) : ((Finset.univ.filter fun i : Fin 252 => (i.val : ℤ) ≤ n).card : ℤ) = max 0 (min 252 (n + 1)) := by
  rcases lt_or_ge n 0 with h | h
  · rw [Finset.filter_eq_empty_iff.mpr]
    · simp; omega
    · intro i _; omega
  · rcases le_or_gt 252 (n + 1) with h2 | h2
    · rw [Finset.filter_true_of_mem]
      · simp; omega
      · intro i _; have := i.isLt; omega
    · obtain ⟨k, rfl⟩ := Int.eq_ofNat_of_zero_le h
      have : (Finset.univ.filter fun i : Fin 252 => ((i.val : ℤ) ≤ (k : ℤ))) = Finset.Iic (⟨k, by omega⟩ : Fin 252) := by
        ext i; simp [Fin.le_def]
      rw [this, Fin.card_Iic]; simp; omega

/-- On positive reals the count is the floor of the base-2 logarithm, cut off. -/
theorem sexp_coe {r : ℝ} (hr : 0 < r) : sexp (r : EReal) = max (-126) (min 126 (⌊Real.log r / Real.log 2⌋ + 1)) := by
  have h0 : ((r : ℝ) : EReal) ≠ 0 := by exact_mod_cast hr.ne'
  unfold sexp; rw [if_neg h0]
  have h : ∀ i : Fin 252, (pw ((i.val : ℤ) - 126) ≤ (r : EReal)) ↔ ((i.val : ℤ) ≤ ⌊Real.log r / Real.log 2⌋ + 126) := by
    intro i
    have h2 : (0 : ℝ) < 2 ^ ((i.val : ℤ) - 126) := zpow_pos (by norm_num) _
    rw [show ((i.val : ℤ) ≤ ⌊Real.log r / Real.log 2⌋ + 126) ↔ ((i.val : ℤ) - 126 ≤ ⌊Real.log r / Real.log 2⌋) by omega, Int.le_floor,
      le_div_iff₀ (Real.log_pos (by norm_num)), ← Real.log_zpow, Real.log_le_log_iff h2 hr]
    unfold pw; exact EReal.coe_le_coe_iff
  rw [Finset.filter_congr (fun i _ => h i), card_le_int]; omega

theorem sexp_top : sexp ⊤ = 126 := by
  unfold sexp; rw [if_neg (by simp), Finset.filter_true_of_mem (fun i _ => le_top)]; simp

/-! The word the kernel builds for a power of two. -/

theorem fields : ∀ n : Fin 255, ((BitVec.ofNat 32 n.val <<< 23 : BitVec 32).extractLsb' 31 1 == 1#1) = false ∧
    ((BitVec.ofNat 32 n.val <<< 23 : BitVec 32).extractLsb' 23 8).toNat = n.val ∧ ((BitVec.ofNat 32 n.val <<< 23 : BitVec 32).extractLsb' 0 23).toNat = 0 := by
  decide +kernel

/-- A word with sign 0, exponent field `n` and fraction 0 is a power of two. -/
theorem ieee_pow (b : BitVec 32) (n : ℕ) (h0 : n ≠ 0) (h1 : n ≠ 2 ^ 8 - 1) (hs : (b.extractLsb' (8 + 23) 1 == 1#1) = false)
    (he : (b.extractLsb' 23 8).toNat = n) (hf : (b.extractLsb' 0 23).toNat = 0) : Ideal.ieee 8 23 b = pw ((n : ℤ) - 127) := by
  unfold Ideal.ieee
  rw [hs, he, hf]
  simp only [if_neg h0, if_neg h1, Bool.false_eq_true, if_false]
  unfold pw
  congr 1
  have : ((n : ℤ) - (2 ^ (8 - 1) - 1) - (23 : ℕ)) = ((n : ℤ) - 127) + (-23) := by norm_num; ring
  rw [this, zpow_add₀ (by norm_num)]
  norm_num
  ring

/-- A biased exponent in the exponent field is the power of two. -/
theorem ofBits_shift (n : ℕ) (h0 : 1 ≤ n) (h1 : n ≤ 254) : Ideal.ofBits .f32 (BitVec.ofNat 32 n <<< 23 : BitVec 32) = pw ((n : ℤ) - 127) := by
  obtain ⟨a, b, c⟩ := fields ⟨n, by omega⟩
  exact ieee_pow _ n (by omega) (by omega) a b c

/-! Constants of the quantiser. -/

/-- The single-precision 1/448. -/
def c448 : EReal := Ideal.ofBits .f32 0x3B124925#32
theorem c448_real : ∃ r : ℝ, 0 < r ∧ c448 = (r : EReal) := by
  refine ⟨_, ?_, by unfold c448; simp [Ideal.ofBits, Ideal.ieee]; rfl⟩
  positivity
theorem ofBits_448 : Ideal.ofBits .f32 0x43E00000#32 = ((448 : ℝ) : EReal) := by
  simp [Ideal.ofBits, Ideal.ieee]; norm_cast; norm_num
theorem ofBits_n448 : Ideal.ofBits .f32 0xC3E00000#32 = ((-448 : ℝ) : EReal) := by
  simp [Ideal.ofBits, Ideal.ieee]; norm_cast; norm_num
theorem ofBits_126 : Ideal.ofBits .f32 0x42FC0000#32 = ((126 : ℝ) : EReal) := by
  simp [Ideal.ofBits, Ideal.ieee]; norm_cast; norm_num
theorem ofBits_n126 : Ideal.ofBits .f32 0xC2FC0000#32 = ((-126 : ℝ) : EReal) := by
  simp [Ideal.ofBits, Ideal.ieee]; norm_cast; norm_num
theorem ofBits_16th : Ideal.ofBits .f32 0x3D800000#32 = ((1 / 16 : ℝ) : EReal) := by
  simp [Ideal.ofBits, Ideal.ieee]; norm_cast; norm_num
theorem ofBits_2 : Ideal.ofBits .f32 0x40000000#32 = ((2 : ℝ) : EReal) := by
  simp [Ideal.ofBits, Ideal.ieee]; norm_cast; norm_num
theorem ofBits_ninf : Ideal.ofBits .f32 0xFF800000#32 = ⊥ := by
  simp [Ideal.ofBits, Ideal.ieee]
theorem ofBits_zero : Ideal.ofBits .f32 0x00000000#32 = 0 := by
  simp [Ideal.ofBits, Ideal.ieee]

end Cert.Expo
-- ==== Proof.Words.lean ====
/-
  The integer words of the quantiser's scale exponent: the count of powers of two not above the value, and the power of
  two built from it by a shift into the exponent field.
-/
module

public import proofs.«01_k».proof.Proof.Expo
public import Idealize.ShloMosaic.Lib.Pointwise
public import Idealize.ShloMosaic.Lib.IndicatorCount

@[expose] public section

set_option maxRecDepth 16384

noncomputable section

namespace Cert.Expo

open Idealize.ShloMosaic

theorem ofInt_sub (a b : ℤ) : BitVec.ofInt 32 (a - b) = BitVec.ofInt 32 a - BitVec.ofInt 32 b := by
  rw [sub_eq_add_neg, BitVec.ofInt_add, BitVec.ofInt_neg, BitVec.sub_eq_add_neg]

/-- The word the kernel compares the value with at index `x` of its 252. -/
def thr (x : Fin 252) : BitVec 32 := IntOp.shli ArithUnit.vector (IntOp.addi (IntOp.subi (IntOp.subi (BitVec.ofNat 32 x.val) 125#32) 1#32) 127#32) 23#32

theorem thr_eq : ∀ x : Fin 252, thr x = BitVec.ofNat 32 (x.val + 1) <<< 23 := by decide +kernel

/-- It denotes `2^(x-126)`. -/
theorem ofBits_thr (x : Fin 252) : Ideal.ofBits FTy.f32 (thr x) = pw ((x.val : ℤ) - 126) := by
  rw [thr_eq, ofBits_shift _ (by omega) (by have := x.isLt; omega)]; congr 1; push_cast; ring

/-- The exponent as the kernel's word. -/
def eword (t : EReal) : BitVec 32 :=
  if t = 0 then 0#32 else IntOp.subi (Finset.fold IntOp.addi (0#32) (fun x : Fin 252 => BitVec.setWidth 32 (BitVec.ofBool
    (decide (Ideal.ofBits FTy.f32 (IntOp.shli ArithUnit.vector (IntOp.addi (IntOp.subi (IntOp.subi (BitVec.ofNat 32 x.val) 125#32) 1#32) 127#32) 23#32) ≤ t)))) Finset.univ) 126#32

theorem eword_eq (t : EReal) : eword t = BitVec.ofInt 32 (sexp t) := by
  unfold eword sexp
  split
  · rfl
  · rw [IndicatorCount.fold_addi_setWidth_eq_card]
    have h : (Finset.univ.filter fun x : Fin 252 => BitVec.ofBool (decide (Ideal.ofBits FTy.f32 (IntOp.shli ArithUnit.vector (IntOp.addi (IntOp.subi (IntOp.subi (BitVec.ofNat 32 x.val) 125#32) 1#32) 127#32) 23#32) ≤ t)) = 1#1)
        = Finset.univ.filter fun i : Fin 252 => pw ((i.val : ℤ) - 126) ≤ t := by
      apply Finset.filter_congr
      intro x _
      have h1 := ofBits_thr x
      unfold thr at h1
      rw [h1]
      by_cases h2 : pw ((x.val : ℤ) - 126) ≤ t <;> simp [h2]
    rw [h]
    generalize (Finset.univ.filter fun i : Fin 252 => pw ((i.val : ℤ) - 126) ≤ t).card = n
    rw [ofInt_sub]
    show BitVec.ofNat 32 n - 126#32 = _
    rfl

/-- A biased exponent, for every exponent in range. -/
theorem biased (z : ℤ) (h0 : -126 ≤ z) (h1 : z ≤ 127) : Ideal.ofBits FTy.f32 (IntOp.shli ArithUnit.vector (IntOp.addi (BitVec.ofInt 32 z) 127#32) 23#32) = pw z := by
  obtain ⟨n, hn⟩ := Int.eq_ofNat_of_zero_le (show 0 ≤ z + 127 by omega)
  have hz : z = (n : ℤ) - 127 := by omega
  have : IntOp.shli ArithUnit.vector (IntOp.addi (BitVec.ofInt 32 z) 127#32) 23#32 = BitVec.ofNat 32 n <<< 23 := by
    have h : IntOp.addi (BitVec.ofInt 32 z) 127#32 = BitVec.ofNat 32 n := by
      show BitVec.ofInt 32 z + 127#32 = _
      rw [hz, ofInt_sub]
      show BitVec.ofNat 32 n - 127#32 + 127#32 = _
      exact BitVec.sub_add_cancel _ _
    rw [h]; rfl
  rw [this, ofBits_shift n (by omega) (by omega), hz]

/-- The scale's word denotes the power of two. -/
theorem ofBits_scale (t : EReal) : Ideal.ofBits FTy.f32 (IntOp.shli ArithUnit.vector (IntOp.addi (eword t) 127#32) 23#32) = pw (sexp t) := by
  rw [eword_eq]; exact biased _ (le_sexp t) (by have := sexp_le t; omega)

/-- The inverse scale's word denotes the inverse power of two. -/
theorem ofBits_inv (t : EReal) : Ideal.ofBits FTy.f32 (IntOp.shli ArithUnit.vector (IntOp.addi (IntOp.subi 0#32 (eword t)) 127#32) 23#32) = pw (-sexp t) := by
  rw [eword_eq]
  have : IntOp.subi 0#32 (BitVec.ofInt 32 (sexp t)) = BitVec.ofInt 32 (-sexp t) := by
    show 0#32 - _ = _
    rw [BitVec.ofInt_neg, BitVec.zero_sub]
  rw [this]; exact biased _ (by have := sexp_le t; omega) (by have := le_sexp t; omega)

end Cert.Expo
-- ==== Proof.Tile.lean ====
/-
  One tile of the attention kernel, written once as a function of what it reads: the eight heads of a group are a
  parameter `h : Fin 8` here, where the kernel's text has them unrolled. `Proof/Trip.lean` shows that the kernel's
  loop body and its last, masked tile are this function.
-/
module

public import proofs.«01_k».proof.Proof.Gen.KernelIdeal.Skeleton

@[expose] public section

set_option maxRecDepth 16384

noncomputable section

namespace Cert.Tile

open Idealize.ShloMosaic Cert.KernelIdeal Cert.KernelIdeal.Gen

variable {F : FTy → Type} [FloatOps F] [Named F]

/-- Row `h` of an 8-row array is a slice of it. -/
theorem slices_row : ∀ h : Fin 8, S8x128.Slices ![h.val, 0] S1x128 := by decide
/-- The columns of head `h` are a slice of the scores. -/
theorem slices_st : ∀ h : Fin 8, S128x1024.Slices ![0, 128 * h.val] S128x128 := by decide
/-- The columns of head `h` are a slice of the products. -/
theorem slices_pv : ∀ h : Fin 8, S256x1024.Slices ![0, 128 * h.val] S256x128 := by decide

/-- Row `h` of a per-head array. -/
def row (h : Fin 8) (x : FVec F S8x128 .f32) : FVec F S1x128 .f32 := extractStridedSlice S1x128 ![h.val, 0] x (slices_row h)
/-- The scores of head `h`. -/
def cut (x : FVec F S128x1024 .f32) (h : Fin 8) : FVec F S128x128 .f32 := extractStridedSlice S128x128 ![0, 128 * h.val] x (slices_st h)
/-- The maximum over the keys, per query. -/
def colmax (x : FVec F S128x128 .f32) : FVec F S1x128 .f32 :=
  shapeCast S1x128 (multiReduction .maximumf [0] S128 x 0xFF800000#32 reduces_S128x128_S128 (.inl rfl) rfl) shapeCasts_S128_S1x128
/-- The sum over the keys, per query. -/
def colsum (x : FVec F S128x128 .f32) : FVec F S1x128 .f32 :=
  shapeCast S1x128 (multiReduction .add [0] S128 x 0x00000000#32 reduces_S128x128_S128 (.inl rfl) rfl) shapeCasts_S128_S1x128
/-- A row repeated over the eight heads. -/
def spread (x : FVec F S1x128 .f32) : FVec F S8x128 .f32 := broadcastTo S8x128 (shapeCast S1x128 x shapeCasts_S1x128_S1x128) broadcasts_S1x128_S8x128
/-- Eight rows stacked, by a chain of selections on the head's number. -/
def stack8 (v5 : IVec S8x128 32) (r : Fin 8 → FVec F S1x128 .f32) : FVec F S8x128 .f32 :=
  select (cmpi .eq v5 (broadcast S8x128 7#32)) (spread (r 7)) <|
  select (cmpi .eq v5 (broadcast S8x128 6#32)) (spread (r 6)) <|
  select (cmpi .eq v5 (broadcast S8x128 5#32)) (spread (r 5)) <|
  select (cmpi .eq v5 (broadcast S8x128 4#32)) (spread (r 4)) <|
  select (cmpi .eq v5 (broadcast S8x128 3#32)) (spread (r 3)) <|
  select (cmpi .eq v5 (broadcast S8x128 2#32)) (spread (r 2)) <|
  select (cmpi .eq v5 (broadcast S8x128 1#32)) (spread (r 1)) (spread (r 0))
/-- The scale of the scores: the queries' scale times the keys' times the softmax scale. -/
def tC (qs : FVec F S8x128 .f32) (ks : F .f32) : FVec F S8x128 .f32 :=
  mulf (mulf qs (broadcast S8x128 ks)) (broadcast S8x128 (Scalar.ofBits .f32 0x3D800000#32))
/-- The tile's scaled maxima. -/
def tR (v5 : IVec S8x128 32) (st : Fin 8 → FVec F S128x128 .f32) (c : FVec F S8x128 .f32) : FVec F S8x128 .f32 :=
  mulf (stack8 v5 fun h => colmax (st h)) c
/-- The maxima after the tile. -/
def tM (m r : FVec F S8x128 .f32) : FVec F S8x128 .f32 := maximumf m r
/-- The factor by which the earlier sums shrink. -/
def tAlpha (m mn : FVec F S8x128 .f32) : FVec F S8x128 .f32 := exp (subf m mn)
/-- The largest weight of the tile, per head, divided by 448. -/
def tT (r mn : FVec F S8x128 .f32) : FVec F S8x1 .f32 :=
  mulf (exp (shapeCast S8x1 (multiReduction .maximumf [1] S8 (subf r mn) 0xFF800000#32 reduces_S8x128_S8 (.inl rfl) rfl) shapeCasts_S8_S8x1))
    (broadcast S8x1 (Scalar.ofBits .f32 0x3B124925#32))
/-- The weights' scale, a power of two. -/
def tPs (t : FVec F S8x1 .f32) : FVec F S8x128 .f32 := k3_pay27 t (iota .tc S8x252 32 [1] iota_S8x252_d1_w32) 125#32
/-- Its inverse. -/
def tInv (t : FVec F S8x1 .f32) : FVec F S8x128 .f32 := k3_pay28 t (iota .tc S8x252 32 [1] iota_S8x252_d1_w32) 125#32
/-- The maxima in units of the raw scores. -/
def tMraw (c mn : FVec F S8x128 .f32) : FVec F S8x128 .f32 := mulf mn (divf (broadcast S8x128 (Scalar.ofBits .f32 0x3F800000#32)) c)
/-- The score scale in units of the base-2 exponential. -/
def tK2 (c : FVec F S8x128 .f32) : FVec F S8x128 .f32 := mulf c (broadcast S8x128 (Named.named κ "log2e" 0x3FB8AA3B#32))
/-- The scaled weights of head `h`. -/
def tP (mraw k2 inv : FVec F S8x128 .f32) (st : FVec F S128x128 .f32) (h : Fin 8) : FVec F S128x128 .f32 :=
  mulf (exp2 (mulf (subf st (broadcastTo S128x128 (row h mraw) broadcasts_S1x128_S128x128)) (broadcastTo S128x128 (row h k2) broadcasts_S1x128_S128x128)))
    (broadcastTo S128x128 (row h inv) broadcasts_S1x128_S128x128)
/-- The 8-bit codes of scaled weights. -/
def tCode (p : FVec F S128x128 .f32) : FVec F S128x128 .fp8e4m3 :=
  truncf .fp8e4m3 (minimumf (broadcast S128x128 (Scalar.ofBits .f32 0x43E00000#32)) (maximumf (broadcast S128x128 (Scalar.ofBits .f32 0xC3E00000#32)) p)) bitsLt_fp8e4m3_f32
/-- The sums of weights after the tile. -/
def tL (v5 : IVec S8x128 32) (alpha l ps : FVec F S8x128 .f32) (p : Fin 8 → FVec F S128x128 .f32) : FVec F S8x128 .f32 :=
  addf (mulf alpha l) (mulf (stack8 v5 fun h => colsum (p h)) ps)
/-- The accumulator's unit after the tile. -/
def tCn (ps : FVec F S8x128 .f32) (vs : F .f32) : FVec F S8x128 .f32 := mulf ps (broadcast S8x128 vs)
/-- The factor of the accumulator. -/
def tBeta (alpha c cn : FVec F S8x128 .f32) : FVec F S8x128 .f32 :=
  mulf alpha (mulf c (divf (broadcast S8x128 (Scalar.ofBits .f32 0x3F800000#32)) cn))
/-- The values weighted by the codes. -/
def tPv (vt : FVec F S256x128 .fp8e4m3) (pc : Fin 8 → FVec F S128x128 .fp8e4m3) : FVec F S256x1024 .f32 :=
  matmul dot_S256x128_S128x1024_S256x1024_1_0_0_1_n_n none vt
    (concatenate S128x1024 1 [⟨S128x128, pc 0⟩, ⟨S128x128, pc 1⟩, ⟨S128x128, pc 2⟩, ⟨S128x128, pc 3⟩, ⟨S128x128, pc 4⟩, ⟨S128x128, pc 5⟩, ⟨S128x128, pc 6⟩, ⟨S128x128, pc 7⟩]
      concatenates_S128x128_S128x128_S128x128_S128x128_S128x128_S128x128_S128x128_S128x128_S128x1024_d1)
    (constant S256x1024 .f32 0x00000000#32)
/-- The columns of head `h` of the accumulator after the tile. -/
def tAcc (beta : FVec F S8x128 .f32) (pv : FVec F S256x1024 .f32) (a : FVec F S256x128 .f32) (h : Fin 8) : FVec F S256x128 .f32 :=
  shapeCast S256x128 (addf (mulf a (broadcastTo S256x128 (row h beta) broadcasts_S1x128_S256x128))
    (extractStridedSlice S256x128 ![0, 128 * h.val] pv (slices_pv h))) shapeCasts_S256x128_S256x128

/-! What the tile leaves, from the scores per head, the scales and the carried values. -/
section
variable (v5 : IVec S8x128 32) (st : Fin 8 → FVec F S128x128 .f32) (qs : FVec F S8x128 .f32) (ks vs : F .f32)
  (vt : FVec F S256x128 .fp8e4m3) (m l c : FVec F S8x128 .f32)

/-- The tile's scaled maxima. -/
def oR : FVec F S8x128 .f32 := tR v5 st (tC qs ks)
/-- The maxima after the tile. -/
def oM : FVec F S8x128 .f32 := tM m (oR v5 st qs ks)
/-- The factor by which the earlier sums shrink. -/
def oAlpha : FVec F S8x128 .f32 := tAlpha m (oM v5 st qs ks m)
/-- The largest weight over 448. -/
def oT : FVec F S8x1 .f32 := tT (oR v5 st qs ks) (oM v5 st qs ks m)
/-- The scaled weights of head `h`. -/
def oP (h : Fin 8) : FVec F S128x128 .f32 := tP (tMraw (tC qs ks) (oM v5 st qs ks m)) (tK2 (tC qs ks)) (tInv (oT v5 st qs ks m)) (st h) h
/-- The sums of weights after the tile. -/
def oL : FVec F S8x128 .f32 := tL v5 (oAlpha v5 st qs ks m) l (tPs (oT v5 st qs ks m)) (oP v5 st qs ks m)
/-- The accumulator's unit after the tile. -/
def oC : FVec F S8x128 .f32 := tCn (tPs (oT v5 st qs ks m)) vs
/-- The factor of the accumulator. -/
def oBeta : FVec F S8x128 .f32 := tBeta (oAlpha v5 st qs ks m) c (oC v5 st qs ks vs m)
/-- The values weighted by the codes. -/
def oPv : FVec F S256x1024 .f32 := tPv vt fun h => tCode (oP v5 st qs ks m h)
/-- The columns of head `h` of the accumulator after the tile, from those before it. -/
def oAcc (a : FVec F S256x128 .f32) (h : Fin 8) : FVec F S256x128 .f32 := tAcc (oBeta v5 st qs ks vs m c) (oPv v5 st qs ks vt m) a h
end

/-- The raw scores: the keys against the stacked queries of the eight heads. -/
def scores (q : FVec F S1024x256 .fp8e4m3) (k : FVec F S1x1x128x256 .fp8e4m3) : FVec F S128x1024 .f32 :=
  matmul dot_S128x256_S1024x256_S128x1024_1_1_0_0_n_n none (shapeCast S128x256 k shapeCasts_S1x1x128x256_S128x256) q (constant S128x1024 .f32 0x00000000#32)
/-- The values of a block, feature by key. -/
def vals (v : FVec F S1x1x256x128 .fp8e4m3) : FVec F S256x128 .fp8e4m3 := shapeCast S256x128 v shapeCasts_S1x1x256x128_S256x128
/-- The head's number, over the lanes. -/
def heads : IVec S8x128 32 := iota .tc S8x128 32 [0] iota_S8x128_d0_w32
/-- The scores of the diagonal block: keys after the query are dropped. -/
def masked (x : FVec F S128x128 .f32) : FVec F S128x128 .f32 :=
  select (cmpi .sle (iota .tc S128x128 32 [0] iota_S128x128_d0_w32) (iota .tc S128x128 32 [1] iota_S128x128_d1_w32)) x
    (broadcast S128x128 (Scalar.ofBits .f32 0xFF800000#32))

end Cert.Tile
-- ==== Proof.Trip.lean ====
/-
  One trip of the attention kernel's loop is the tile function of `Proof/Tile.lean`, at the block of keys and values
  the trip reads: the carried values it returns and what it stores into the accumulator.
-/
module

public import proofs.«01_k».proof.Proof.Tile
public import proofs.«01_k».proof.Proof.Gen.KernelIdeal.Loops

@[expose] public section

set_option maxRecDepth 16384

noncomputable section

namespace Cert.Tile

open Idealize.ShloMosaic Idealize.ShloMosaic.TcCoe Cert.KernelIdeal Cert.KernelIdeal.Gen
open Idealize.SL Idealize.SL.RA Idealize.SL.BI Idealize.SL.Sem

variable {F : FTy → Type} [FloatOps F] [Named F]

/-- The columns of head `h` lie inside the accumulator. -/
theorem inb_acc : ∀ h : Fin 8, ∀ a, (![0, 128 * h.val] : Fin 2 → Nat) a + S256x128.size a ≤ S256x1024.size a := by decide
/-- The columns of head `h` in the accumulator. -/
def accR (h : Fin 8) : Rect S256x1024 := Rect.unit (s := S256x1024) ![0, 128 * h.val] S256x128.size (inb_acc h)

/-- The pieces a tile stores: the columns of each head, the last first. -/
def pieces (a : Fin 8 → FVec F S256x128 .f32) : List (View.Piece (Elt F) S256x1024 .f32) :=
  [⟨accR 7, a 7⟩, ⟨accR 6, a 6⟩, ⟨accR 5, a 5⟩, ⟨accR 4, a 4⟩, ⟨accR 3, a 3⟩, ⟨accR 2, a 2⟩, ⟨accR 1, a 1⟩, ⟨accR 0, a 0⟩]

/-- The block of keys trip `k` reads. -/
def keysAt (i : grid3.Coords) (arg7 : Memref sig .tc .vmem S1x1x4096x256 .fp8e4m3) (X : BufTy.Contents (Elt F) arg7.view.ty) (k : Fin (k3_t1_loop i).trips) : FVec F S1x1x128x256 .fp8e4m3 :=
  View.readAt (Elt F) arg7.view (Rect.unit (s := S1x1x4096x256) (k3_off1 i k) S1x1x128x256.size (k3_off1_inb i k)).toLoadRect X
/-- The block of values trip `k` reads. -/
def valsAt (i : grid3.Coords) (arg8 : Memref sig .tc .vmem S1x1x256x4096 .fp8e4m3) (X : BufTy.Contents (Elt F) arg8.view.ty) (k : Fin (k3_t1_loop i).trips) : FVec F S1x1x256x128 .fp8e4m3 :=
  View.readAt (Elt F) arg8.view (Rect.unit (s := S1x1x256x4096) (k3_off2 i k) S1x1x256x128.size (k3_off2_inb i k)).toLoadRect X
/-- The block's scale trip `k` reads. -/
def scaleAt (i : grid3.Coords) (arg3 : Memref sig .tc .smem S8x2x32 .f32) (X : BufTy.Contents (Elt F) arg3.view.ty) (k : Fin (k3_t1_loop i).trips) : F .f32 :=
  View.readAt (Elt F) arg3.view (Rect.unit (s := S8x2x32) (k3_off3 i k) S1x1x1.size (k3_off3_inb i k)).toLoadRect X (Shape.Idx.first (numel1_S1x1x1.symm ▸ Nat.one_pos))

/-- What one trip carries on: the new maxima, sums and accumulator units. -/
theorem tripR_eq (𝒱 : Variants) (c : Dev nD) (bd : Option 𝒱.V) (i : grid3.Coords) (arg3 : Memref sig .tc .smem S8x2x32 .f32) (harg3 : arg3.IsWhole) (arg4 : Memref sig .tc .smem S8x2x32 .f32) (harg4 : arg4.IsWhole) (arg5 : Memref sig .tc .vmem S1x8x128x256 .fp8e4m3) (harg5 : arg5.IsWhole) (arg6 : Memref sig .tc .vmem S1x1x8x128 .f32) (harg6 : arg6.IsWhole) (arg7 : Memref sig .tc .vmem S1x1x4096x256 .fp8e4m3) (harg7 : arg7.IsWhole) (arg8 : Memref sig .tc .vmem S1x1x256x4096 .fp8e4m3) (harg8 : arg8.IsWhole) (arg9 : Memref sig .tc .vmem S1x128x2048 .bf16) (harg9 : arg9.IsWhole) (arg10 : Memref sig .tc .vmem S256x1024 .f32) (harg10 : arg10.IsWhole) (arg0 : BitVec 32) (arg1 : BitVec 32) (v0 : Vec F S1x8x128x256 .fp8e4m3) (v3 : Vec F S1x1x8x128 .f32) (v5 : IVec S8x128 32) (X_arg3 : BufTy.Contents (Elt F) arg3.view.ty) (X_arg4 : BufTy.Contents (Elt F) arg4.view.ty) (X_arg7 : BufTy.Contents (Elt F) arg7.view.ty) (X_arg8 : BufTy.Contents (Elt F) arg8.view.ty) (k : Fin (k3_t1_loop i).trips) (acc : FVec F S8x128 .f32 × FVec F S8x128 .f32 × FVec F S8x128 .f32) (f_arg10 : BufTy.Contents (Elt F) arg10.view.ty) :
    tripR_k3_t1 (F := F) 𝒱 c bd i arg3 harg3 arg4 harg4 arg5 harg5 arg6 harg6 arg7 harg7 arg8 harg8 arg9 harg9 arg10 harg10 arg0 arg1 v0 v3 v5 X_arg3 X_arg4 X_arg7 X_arg8 k acc f_arg10
      = (oM v5 (cut (scores (k3_pay138 v0) (keysAt i arg7 X_arg7 k))) (k3_pay139 v3) (scaleAt i arg3 X_arg3 k) acc.1,
         oL v5 (cut (scores (k3_pay138 v0) (keysAt i arg7 X_arg7 k))) (k3_pay139 v3) (scaleAt i arg3 X_arg3 k) acc.1 acc.2.1,
         oC v5 (cut (scores (k3_pay138 v0) (keysAt i arg7 X_arg7 k))) (k3_pay139 v3) (scaleAt i arg3 X_arg3 k) (scaleAt i arg4 X_arg4 k) acc.1) := by
  unfold tripR_k3_t1; unfold trip_k3_t1; dsimp only; rfl

/-- What one trip stores: the columns of each head, rescaled, plus the tile's product. -/
theorem tripL_eq (𝒱 : Variants) (c : Dev nD) (bd : Option 𝒱.V) (i : grid3.Coords) (arg3 : Memref sig .tc .smem S8x2x32 .f32) (harg3 : arg3.IsWhole) (arg4 : Memref sig .tc .smem S8x2x32 .f32) (harg4 : arg4.IsWhole) (arg5 : Memref sig .tc .vmem S1x8x128x256 .fp8e4m3) (harg5 : arg5.IsWhole) (arg6 : Memref sig .tc .vmem S1x1x8x128 .f32) (harg6 : arg6.IsWhole) (arg7 : Memref sig .tc .vmem S1x1x4096x256 .fp8e4m3) (harg7 : arg7.IsWhole) (arg8 : Memref sig .tc .vmem S1x1x256x4096 .fp8e4m3) (harg8 : arg8.IsWhole) (arg9 : Memref sig .tc .vmem S1x128x2048 .bf16) (harg9 : arg9.IsWhole) (arg10 : Memref sig .tc .vmem S256x1024 .f32) (harg10 : arg10.IsWhole) (arg0 : BitVec 32) (arg1 : BitVec 32) (v0 : Vec F S1x8x128x256 .fp8e4m3) (v3 : Vec F S1x1x8x128 .f32) (v5 : IVec S8x128 32) (X_arg3 : BufTy.Contents (Elt F) arg3.view.ty) (X_arg4 : BufTy.Contents (Elt F) arg4.view.ty) (X_arg7 : BufTy.Contents (Elt F) arg7.view.ty) (X_arg8 : BufTy.Contents (Elt F) arg8.view.ty) (k : Fin (k3_t1_loop i).trips) (acc : FVec F S8x128 .f32 × FVec F S8x128 .f32 × FVec F S8x128 .f32) (f_arg10 : BufTy.Contents (Elt F) arg10.view.ty) :
    tripL_k3_t1 (F := F) 𝒱 c bd i arg3 harg3 arg4 harg4 arg5 harg5 arg6 harg6 arg7 harg7 arg8 harg8 arg9 harg9 arg10 harg10 arg0 arg1 v0 v3 v5 X_arg3 X_arg4 X_arg7 X_arg8 k acc f_arg10
      = pieces fun h => oAcc v5 (cut (scores (k3_pay138 v0) (keysAt i arg7 X_arg7 k))) (k3_pay139 v3) (scaleAt i arg3 X_arg3 k) (scaleAt i arg4 X_arg4 k) (vals (valsAt i arg8 X_arg8 k)) acc.1 acc.2.2
          (View.readAt (Elt F) arg10.view (accR h).toLoadRect f_arg10) h := by
  unfold tripL_k3_t1; unfold trip_k3_t1; dsimp only; rfl

end Cert.Tile
-- ==== Proof.Run3.lean ====
/-
  What one grid point of the attention kernel stores into its output block, in terms of the tile function: the loop
  over the blocks of keys before the diagonal, then the masked tile, then the division by the sums.
-/
module

public import proofs.«01_k».proof.Proof.Trip
import all proofs.«01_k».proof.Proof.Gen.KernelIdeal.Frame
public import proofs.«01_k».proof.Proof.Gen.KernelIdeal.Frame

@[expose] public section

set_option maxRecDepth 16384

noncomputable section

namespace Cert.Tile

open Idealize.ShloMosaic Idealize.ShloMosaic.TcCoe Cert.KernelIdeal Cert.KernelIdeal.Gen
open Idealize.SL Idealize.SL.RA Idealize.SL.BI Idealize.SL.Sem

variable {F : FTy → Type} [FloatOps F] [Named F]

/-- The accumulator's clearing. -/
def clear : List (View.Piece (Elt F) S256x1024 .f32) := [⟨Rect.unit (s := S256x1024) ![0, 0] S256x1024.size inb_S256x1024_S256x1024_0_0, k3_pay140⟩]

/-- The state of the loop over the blocks before the diagonal, before trip `n`. -/
def loop1 (c : Dev nD) (i : grid3.Coords) (arg3 : Memref sig .tc .smem S8x2x32 .f32) (harg3 : arg3.IsWhole) (arg4 : Memref sig .tc .smem S8x2x32 .f32) (harg4 : arg4.IsWhole) (arg5 : Memref sig .tc .vmem S1x8x128x256 .fp8e4m3) (harg5 : arg5.IsWhole) (arg6 : Memref sig .tc .vmem S1x1x8x128 .f32) (harg6 : arg6.IsWhole) (arg7 : Memref sig .tc .vmem S1x1x4096x256 .fp8e4m3) (harg7 : arg7.IsWhole) (arg8 : Memref sig .tc .vmem S1x1x256x4096 .fp8e4m3) (harg8 : arg8.IsWhole) (arg9 : Memref sig .tc .vmem S1x128x2048 .bf16) (harg9 : arg9.IsWhole) (arg10 : Memref sig .tc .vmem S256x1024 .f32) (harg10 : arg10.IsWhole) (x0 : Vec F S8x2x32 .f32) (x1 : Vec F S8x2x32 .f32) (x2 : Vec F S1x8x128x256 .fp8e4m3) (x3 : Vec F S1x1x8x128 .f32) (x4 : Vec F S1x1x4096x256 .fp8e4m3) (x5 : Vec F S1x1x256x4096 .fp8e4m3) (n : ℕ) : (FVec F S8x128 .f32 × FVec F S8x128 .f32 × FVec F S8x128 .f32) × List (View.Piece (Elt F) S256x1024 .f32) :=
  st_k3_t1 (F := F) Variants.none c none i arg3 harg3 arg4 harg4 arg5 harg5 arg6 harg6 arg7 harg7 arg8 harg8 arg9 harg9 arg10 harg10 (BitVec.ofNat 32 (i 0).val) (BitVec.ofNat 32 (i 1).val) (View.readAt (Elt F) arg5.view (Rect.unit (s := S1x8x128x256) ![0, 0, 0, 0] S1x8x128x256.size inb_S1x8x128x256_S1x8x128x256_0_0_0_0).toLoadRect (harg5.unread x2)) (View.readAt (Elt F) arg6.view (Rect.unit (s := S1x1x8x128) ![0, 0, 0, 0] S1x1x8x128.size inb_S1x1x8x128_S1x1x8x128_0_0_0_0).toLoadRect (harg6.unread x3)) heads (harg3.unread x0) (harg4.unread x1) (harg7.unread x4) (harg8.unread x5) (arg10.view.writes (Elt F) arg10.view.junk clear) (k3_pay141, k3_pay142, k3_pay143) n

/-- The state after the loop over the blocks left between the loop's end and the diagonal: there are none. -/
def loop2 (c : Dev nD) (i : grid3.Coords) (arg3 : Memref sig .tc .smem S8x2x32 .f32) (harg3 : arg3.IsWhole) (arg4 : Memref sig .tc .smem S8x2x32 .f32) (harg4 : arg4.IsWhole) (arg5 : Memref sig .tc .vmem S1x8x128x256 .fp8e4m3) (harg5 : arg5.IsWhole) (arg6 : Memref sig .tc .vmem S1x1x8x128 .f32) (harg6 : arg6.IsWhole) (arg7 : Memref sig .tc .vmem S1x1x4096x256 .fp8e4m3) (harg7 : arg7.IsWhole) (arg8 : Memref sig .tc .vmem S1x1x256x4096 .fp8e4m3) (harg8 : arg8.IsWhole) (arg9 : Memref sig .tc .vmem S1x128x2048 .bf16) (harg9 : arg9.IsWhole) (arg10 : Memref sig .tc .vmem S256x1024 .f32) (harg10 : arg10.IsWhole) (x0 : Vec F S8x2x32 .f32) (x1 : Vec F S8x2x32 .f32) (x2 : Vec F S1x8x128x256 .fp8e4m3) (x3 : Vec F S1x1x8x128 .f32) (x4 : Vec F S1x1x4096x256 .fp8e4m3) (x5 : Vec F S1x1x256x4096 .fp8e4m3) : (FVec F S8x128 .f32 × FVec F S8x128 .f32 × FVec F S8x128 .f32) × List (View.Piece (Elt F) S256x1024 .f32) :=
  st_k3_t2 (F := F) Variants.none c none i arg3 harg3 arg4 harg4 arg5 harg5 arg6 harg6 arg7 harg7 arg8 harg8 arg9 harg9 arg10 harg10 (BitVec.ofNat 32 (i 0).val) (BitVec.ofNat 32 (i 1).val) (View.readAt (Elt F) arg5.view (Rect.unit (s := S1x8x128x256) ![0, 0, 0, 0] S1x8x128x256.size inb_S1x8x128x256_S1x8x128x256_0_0_0_0).toLoadRect (harg5.unread x2)) (View.readAt (Elt F) arg6.view (Rect.unit (s := S1x1x8x128) ![0, 0, 0, 0] S1x1x8x128.size inb_S1x1x8x128_S1x1x8x128_0_0_0_0).toLoadRect (harg6.unread x3)) heads
    (Scalar.addi 0#32 (Scalar.muli (Scalar.divsi (Scalar.subi (BitVec.ofNat 32 (i 2).val) 0#32) 1#32) 1#32)) (harg3.unread x0) (harg4.unread x1) (harg7.unread x4) (harg8.unread x5)
    (arg10.view.writes (Elt F) arg10.view.junk ((loop1 c i arg3 harg3 arg4 harg4 arg5 harg5 arg6 harg6 arg7 harg7 arg8 harg8 arg9 harg9 arg10 harg10 x0 x1 x2 x3 x4 x5 (Scf.trips (k3_t1_loop i).lb (k3_t1_loop i).ub (k3_t1_loop i).st)).2 ++ clear))
    ((loop1 c i arg3 harg3 arg4 harg4 arg5 harg5 arg6 harg6 arg7 harg7 arg8 harg8 arg9 harg9 arg10 harg10 x0 x1 x2 x3 x4 x5 (Scf.trips (k3_t1_loop i).lb (k3_t1_loop i).ub (k3_t1_loop i).st)).1.1, (loop1 c i arg3 harg3 arg4 harg4 arg5 harg5 arg6 harg6 arg7 harg7 arg8 harg8 arg9 harg9 arg10 harg10 x0 x1 x2 x3 x4 x5 (Scf.trips (k3_t1_loop i).lb (k3_t1_loop i).ub (k3_t1_loop i).st)).1.2.1, (loop1 c i arg3 harg3 arg4 harg4 arg5 harg5 arg6 harg6 arg7 harg7 arg8 harg8 arg9 harg9 arg10 harg10 x0 x1 x2 x3 x4 x5 (Scf.trips (k3_t1_loop i).lb (k3_t1_loop i).ub (k3_t1_loop i).st)).1.2.2)
    (Scf.trips (k3_t2_loop i).lb (k3_t2_loop i).ub (k3_t2_loop i).st)

/-- The pieces of the accumulator before the masked tile. -/
def before (c : Dev nD) (i : grid3.Coords) (arg3 : Memref sig .tc .smem S8x2x32 .f32) (harg3 : arg3.IsWhole) (arg4 : Memref sig .tc .smem S8x2x32 .f32) (harg4 : arg4.IsWhole) (arg5 : Memref sig .tc .vmem S1x8x128x256 .fp8e4m3) (harg5 : arg5.IsWhole) (arg6 : Memref sig .tc .vmem S1x1x8x128 .f32) (harg6 : arg6.IsWhole) (arg7 : Memref sig .tc .vmem S1x1x4096x256 .fp8e4m3) (harg7 : arg7.IsWhole) (arg8 : Memref sig .tc .vmem S1x1x256x4096 .fp8e4m3) (harg8 : arg8.IsWhole) (arg9 : Memref sig .tc .vmem S1x128x2048 .bf16) (harg9 : arg9.IsWhole) (arg10 : Memref sig .tc .vmem S256x1024 .f32) (harg10 : arg10.IsWhole) (x0 : Vec F S8x2x32 .f32) (x1 : Vec F S8x2x32 .f32) (x2 : Vec F S1x8x128x256 .fp8e4m3) (x3 : Vec F S1x1x8x128 .f32) (x4 : Vec F S1x1x4096x256 .fp8e4m3) (x5 : Vec F S1x1x256x4096 .fp8e4m3) : List (View.Piece (Elt F) S256x1024 .f32) :=
  (loop2 c i arg3 harg3 arg4 harg4 arg5 harg5 arg6 harg6 arg7 harg7 arg8 harg8 arg9 harg9 arg10 harg10 x0 x1 x2 x3 x4 x5).2 ++ ((loop1 c i arg3 harg3 arg4 harg4 arg5 harg5 arg6 harg6 arg7 harg7 arg8 harg8 arg9 harg9 arg10 harg10 x0 x1 x2 x3 x4 x5 (Scf.trips (k3_t1_loop i).lb (k3_t1_loop i).ub (k3_t1_loop i).st)).2 ++ clear)

/-- One head's update of the accumulator: its columns read, updated and stored. -/
def upd (v : View sig .tc .vmem S256x1024 .f32) (g : FVec F S256x128 .f32 → Fin 8 → FVec F S256x128 .f32) (h : Fin 8) (L : List (View.Piece (Elt F) S256x1024 .f32)) : List (View.Piece (Elt F) S256x1024 .f32) :=
  ⟨accR h, g (v.readCov L (accR h).toLoadRect) h⟩ :: L
/-- The eight heads' updates, one after another. -/
def upd8 (v : View sig .tc .vmem S256x1024 .f32) (g : FVec F S256x128 .f32 → Fin 8 → FVec F S256x128 .f32) (L : List (View.Piece (Elt F) S256x1024 .f32)) : List (View.Piece (Elt F) S256x1024 .f32) :=
  upd v g 7 (upd v g 6 (upd v g 5 (upd v g 4 (upd v g 3 (upd v g 2 (upd v g 1 (upd v g 0 L)))))))

/-- The output's block of head `h`: the accumulator's columns times the unit over the sum, turned to query by feature. -/
def yHead (l c : FVec F S8x128 .f32) (a : FVec F S256x128 .f32) (h : Fin 8) : FVec F S1x128x256 .bf16 :=
  shapeCast S1x128x256 (truncf .bf16 (transpose S128x256 [1, 0] (mulf a (broadcastTo S256x128 (row h (divf c l)) broadcasts_S1x128_S256x128)) transposes_S256x128_p1_0_S128x256) bitsLt_bf16_f32) shapeCasts_S128x256_S1x128x256

/-- The columns of head `h` lie inside the output block. -/
theorem inb_y : ∀ h : Fin 8, ∀ a, (![0, 0, 256 * h.val] : Fin 3 → Nat) a + S1x128x256.size a ≤ S1x128x2048.size a := by decide
/-- The columns of head `h` in the output block. -/
def yR (h : Fin 8) : Rect S1x128x2048 := Rect.unit (s := S1x128x2048) ![0, 0, 256 * h.val] S1x128x256.size (inb_y h)
/-- The pieces stored into the output block. -/
def yPieces (a : Fin 8 → FVec F S1x128x256 .bf16) : List (View.Piece (Elt F) S1x128x2048 .bf16) :=
  [⟨yR 7, a 7⟩, ⟨yR 6, a 6⟩, ⟨yR 5, a 5⟩, ⟨yR 4, a 4⟩, ⟨yR 3, a 3⟩, ⟨yR 2, a 2⟩, ⟨yR 1, a 1⟩, ⟨yR 0, a 0⟩]

section
variable (c : Dev nD) (i : grid3.Coords) (arg3 : Memref sig .tc .smem S8x2x32 .f32) (harg3 : arg3.IsWhole) (arg4 : Memref sig .tc .smem S8x2x32 .f32) (harg4 : arg4.IsWhole) (arg5 : Memref sig .tc .vmem S1x8x128x256 .fp8e4m3) (harg5 : arg5.IsWhole) (arg6 : Memref sig .tc .vmem S1x1x8x128 .f32) (harg6 : arg6.IsWhole) (arg7 : Memref sig .tc .vmem S1x1x4096x256 .fp8e4m3) (harg7 : arg7.IsWhole) (arg8 : Memref sig .tc .vmem S1x1x256x4096 .fp8e4m3) (harg8 : arg8.IsWhole) (arg9 : Memref sig .tc .vmem S1x128x2048 .bf16) (harg9 : arg9.IsWhole) (arg10 : Memref sig .tc .vmem S256x1024 .f32) (harg10 : arg10.IsWhole) (x0 : Vec F S8x2x32 .f32) (x1 : Vec F S8x2x32 .f32) (x2 : Vec F S1x8x128x256 .fp8e4m3) (x3 : Vec F S1x1x8x128 .f32) (x4 : Vec F S1x1x4096x256 .fp8e4m3) (x5 : Vec F S1x1x256x4096 .fp8e4m3)

/-- The diagonal block's keys. -/
def keysD : FVec F S1x1x128x256 .fp8e4m3 := View.readAt (Elt F) arg7.view (Rect.unit (s := S1x1x4096x256) (k3_off7 i) S1x1x128x256.size (k3_off7_inb i)).toLoadRect (harg7.unread x4)
/-- The diagonal block's values. -/
def valsD : FVec F S1x1x256x128 .fp8e4m3 := View.readAt (Elt F) arg8.view (Rect.unit (s := S1x1x256x4096) (k3_off8 i) S1x1x256x128.size (k3_off8_inb i)).toLoadRect (harg8.unread x5)
/-- The diagonal block's scale in an array of scales. -/
def scaleD (arg3 : Memref sig .tc .smem S8x2x32 .f32) (harg3 : arg3.IsWhole) (x0 : Vec F S8x2x32 .f32) : F .f32 := View.readAt (Elt F) arg3.view (Rect.unit (s := S8x2x32) (k3_off9 i) S1x1x1.size (k3_off9_inb i)).toLoadRect (harg3.unread x0) (Shape.Idx.first (numel1_S1x1x1.symm ▸ Nat.one_pos))
/-- The queries of the grid point, the eight heads stacked. -/
def qD : FVec F S1024x256 .fp8e4m3 := k3_pay138 (View.readAt (Elt F) arg5.view (Rect.unit (s := S1x8x128x256) ![0, 0, 0, 0] S1x8x128x256.size inb_S1x8x128x256_S1x8x128x256_0_0_0_0).toLoadRect (harg5.unread x2))
/-- The queries' scales. -/
def qsD : FVec F S8x128 .f32 := k3_pay139 (View.readAt (Elt F) arg6.view (Rect.unit (s := S1x1x8x128) ![0, 0, 0, 0] S1x1x8x128.size inb_S1x1x8x128_S1x1x8x128_0_0_0_0).toLoadRect (harg6.unread x3))
/-- The masked scores of the diagonal block. -/
def stD (h : Fin 8) : FVec F S128x128 .f32 := masked (cut (scores (qD arg5 harg5 x2) (keysD i arg7 harg7 x4)) h)
end

set_option maxHeartbeats 4000000 in
/-- What a grid point stores into its output block. -/
theorem run3_eq (c : Dev nD) (i : grid3.Coords) (arg3 : Memref sig .tc .smem S8x2x32 .f32) (harg3 : arg3.IsWhole) (arg4 : Memref sig .tc .smem S8x2x32 .f32) (harg4 : arg4.IsWhole) (arg5 : Memref sig .tc .vmem S1x8x128x256 .fp8e4m3) (harg5 : arg5.IsWhole) (arg6 : Memref sig .tc .vmem S1x1x8x128 .f32) (harg6 : arg6.IsWhole) (arg7 : Memref sig .tc .vmem S1x1x4096x256 .fp8e4m3) (harg7 : arg7.IsWhole) (arg8 : Memref sig .tc .vmem S1x1x256x4096 .fp8e4m3) (harg8 : arg8.IsWhole) (arg9 : Memref sig .tc .vmem S1x128x2048 .bf16) (harg9 : arg9.IsWhole) (arg10 : Memref sig .tc .vmem S256x1024 .f32) (harg10 : arg10.IsWhole) (x0 : Vec F S8x2x32 .f32) (x1 : Vec F S8x2x32 .f32) (x2 : Vec F S1x8x128x256 .fp8e4m3) (x3 : Vec F S1x1x8x128 .f32) (x4 : Vec F S1x1x4096x256 .fp8e4m3) (x5 : Vec F S1x1x256x4096 .fp8e4m3) :
    (kernelRun3_A (F := F) c i arg3 harg3 arg4 harg4 arg5 harg5 arg6 harg6 arg7 harg7 arg8 harg8 arg9 harg9 arg10 harg10 x0 x1 x2 x3 x4 x5).1
      = yPieces fun h => yHead
          (oL heads (stD i arg5 harg5 arg7 harg7 x2 x4) (qsD arg6 harg6 x3) (scaleD i arg3 harg3 x0) (loop2 c i arg3 harg3 arg4 harg4 arg5 harg5 arg6 harg6 arg7 harg7 arg8 harg8 arg9 harg9 arg10 harg10 x0 x1 x2 x3 x4 x5).1.1 (loop2 c i arg3 harg3 arg4 harg4 arg5 harg5 arg6 harg6 arg7 harg7 arg8 harg8 arg9 harg9 arg10 harg10 x0 x1 x2 x3 x4 x5).1.2.1)
          (oC heads (stD i arg5 harg5 arg7 harg7 x2 x4) (qsD arg6 harg6 x3) (scaleD i arg3 harg3 x0) (scaleD i arg4 harg4 x1) (loop2 c i arg3 harg3 arg4 harg4 arg5 harg5 arg6 harg6 arg7 harg7 arg8 harg8 arg9 harg9 arg10 harg10 x0 x1 x2 x3 x4 x5).1.1)
          (arg10.view.readCov (upd8 arg10.view (oAcc heads (stD i arg5 harg5 arg7 harg7 x2 x4) (qsD arg6 harg6 x3) (scaleD i arg3 harg3 x0) (scaleD i arg4 harg4 x1) (vals (valsD i arg8 harg8 x5)) (loop2 c i arg3 harg3 arg4 harg4 arg5 harg5 arg6 harg6 arg7 harg7 arg8 harg8 arg9 harg9 arg10 harg10 x0 x1 x2 x3 x4 x5).1.1 (loop2 c i arg3 harg3 arg4 harg4 arg5 harg5 arg6 harg6 arg7 harg7 arg8 harg8 arg9 harg9 arg10 harg10 x0 x1 x2 x3 x4 x5).1.2.2)
            (before c i arg3 harg3 arg4 harg4 arg5 harg5 arg6 harg6 arg7 harg7 arg8 harg8 arg9 harg9 arg10 harg10 x0 x1 x2 x3 x4 x5)) (accR h).toLoadRect) h := by
  unfold kernelRun3_A; dsimp only; rfl

end Cert.Tile
-- ==== Proof.Scal.lean ====
/-
  What one tile computes, read at an index over the extended reals.
-/
module

public import proofs.«01_k».proof.Proof.Run3
public import proofs.«01_k».proof.Proof.Words

@[expose] public section

set_option maxRecDepth 16384

noncomputable section

namespace Cert.Tile

open Idealize.ShloMosaic Cert.KernelIdeal Cert.KernelIdeal.Gen Cert.Expo

/-- `log2 e`, as the kernel's named constant reads. -/
def log2e : EReal := (((Real.log 2)⁻¹ : ℝ) : EReal)

theorem named_log2e : (Named.named κ "log2e" 0x3FB8AA3B#32 : Ideal .f32) = log2e := IdealRules.named_const.ideal_named_scalar _ _ _ _ rfl

/-- A raw score is the inner product of a key and a query. -/
theorem scores_apply (q : FVec Ideal S1024x256 .fp8e4m3) (k : FVec Ideal S1x1x128x256 .fp8e4m3) (h : Fin 8) (a b : Fin 128) :
    cut (scores q k) h (ix2 a b) = ∑ x, k (ix4 0 0 a x) * q (ix2 ⟨128 * h.val + b.val, by omega⟩ x) := by
  pointwise [cut, scores]

/-- Row `h` of the stack is the `h`-th row. -/
theorem stack8_apply (r : Fin 8 → FVec Ideal S1x128 .f32) (h : Fin 8) (q : Fin 128) : stack8 heads r (ix2 h q) = r h (ix2 0 q) := by
  pointwise [stack8, heads, spread]
  fin_cases h <;> rfl

/-- The maximum over the keys. -/
theorem colmax_apply (x : FVec Ideal S128x128 .f32) (q : Fin 128) : colmax x (ix2 0 q) = Finset.univ.fold max ⊥ fun k => x (ix2 k q) := by
  pointwise [colmax]
  rw [ofBits_ninf]

/-- The sum over the keys. -/
theorem colsum_apply (x : FVec Ideal S128x128 .f32) (q : Fin 128) : colsum x (ix2 0 q) = ∑ k, x (ix2 k q) := by
  pointwise [colsum]

section
variable (st : Fin 8 → FVec Ideal S128x128 .f32) (qs : FVec Ideal S8x128 .f32) (ks vs : Ideal .f32)
  (vt : FVec Ideal S256x128 .fp8e4m3) (m l c : FVec Ideal S8x128 .f32) (a : FVec Ideal S256x128 .f32)

theorem tC_apply (h : Fin 8) (q : Fin 128) : tC qs ks (ix2 h q) = qs (ix2 h q) * ks * Ideal.ofBits .f32 0x3D800000#32 := by
  pointwise [tC]

/-- The scaled maximum of a tile. -/
theorem oR_apply (h : Fin 8) (q : Fin 128) :
    oR heads st qs ks (ix2 h q) = (Finset.univ.fold max ⊥ fun k => st h (ix2 k q)) * (qs (ix2 h q) * ks * Ideal.ofBits .f32 0x3D800000#32) := by
  rw [← colmax_apply, ← tC_apply, ← stack8_apply (fun h => colmax (st h))]
  pointwise [oR, tR]

theorem oM_apply (h : Fin 8) (q : Fin 128) : oM heads st qs ks m (ix2 h q) = max (m (ix2 h q)) (oR heads st qs ks (ix2 h q)) := by
  pointwise [oM, tM]

theorem oAlpha_apply (h : Fin 8) (q : Fin 128) : oAlpha heads st qs ks m (ix2 h q) = Ideal.exp (m (ix2 h q) - oM heads st qs ks m (ix2 h q)) := by
  pointwise [oAlpha, tAlpha]

theorem oT_apply (h : Fin 8) : oT heads st qs ks m (ix2 h 0) =
    Ideal.exp (Finset.univ.fold max ⊥ fun q => oR heads st qs ks (ix2 h q) - oM heads st qs ks m (ix2 h q)) * c448 := by
  pointwise [oT, tT]
  rw [ofBits_ninf]; rfl

theorem tPs_apply (t : FVec Ideal S8x1 .f32) (h : Fin 8) (q : Fin 128) : tPs t (ix2 h q) = pw (sexp (t (ix2 h 0))) := by
  rw [← ofBits_scale, eword]
  pointwise [tPs, k3_pay27, k3_pay26]

theorem tInv_apply (t : FVec Ideal S8x1 .f32) (h : Fin 8) (q : Fin 128) : tInv t (ix2 h q) = pw (-sexp (t (ix2 h 0))) := by
  rw [← ofBits_inv, eword]
  pointwise [tInv, k3_pay28, k3_pay26]

/-- A scaled weight. -/
theorem oP_apply (h : Fin 8) (k q : Fin 128) : oP heads st qs ks m h (ix2 k q) =
    Ideal.exp2 ((st h (ix2 k q) - oM heads st qs ks m (ix2 h q) * Ideal.div 1 (tC qs ks (ix2 h q))) * (tC qs ks (ix2 h q) * log2e))
      * pw (-sexp (oT heads st qs ks m (ix2 h 0))) := by
  rw [← tInv_apply _ h q, ← named_log2e]
  pointwise [oP, tP, row, tMraw, tK2]
  rfl

theorem oL_apply (h : Fin 8) (q : Fin 128) : oL heads st qs ks m l (ix2 h q) =
    oAlpha heads st qs ks m (ix2 h q) * l (ix2 h q) + (∑ k, oP heads st qs ks m h (ix2 k q)) * pw (sexp (oT heads st qs ks m (ix2 h 0))) := by
  rw [← tPs_apply _ h q, ← colsum_apply, ← stack8_apply (fun h => colsum (oP heads st qs ks m h))]
  pointwise [oL, tL]

theorem oC_apply (h : Fin 8) (q : Fin 128) : oC heads st qs ks vs m (ix2 h q) = pw (sexp (oT heads st qs ks m (ix2 h 0))) * vs := by
  rw [← tPs_apply _ h q]
  pointwise [oC, tCn]

theorem oBeta_apply (h : Fin 8) (q : Fin 128) : oBeta heads st qs ks vs m c (ix2 h q) =
    oAlpha heads st qs ks m (ix2 h q) * (c (ix2 h q) * Ideal.div 1 (oC heads st qs ks vs m (ix2 h q))) := by
  pointwise [oBeta, tBeta]

theorem tCode_apply (p : FVec Ideal S128x128 .f32) (k q : Fin 128) :
    tCode p (ix2 k q) = min (Ideal.ofBits FTy.f32 0x43E00000#32) (max (Ideal.ofBits FTy.f32 0xC3E00000#32) (p (ix2 k q))) := by
  pointwise [tCode]

/-- The columns of head `h` of the values weighted by the codes. -/
theorem tPv_apply (pc : Fin 8 → FVec Ideal S128x128 .fp8e4m3) (h : Fin 8) (d : Fin 256) (q : Fin 128) :
    extractStridedSlice S256x128 ![0, 128 * h.val] (tPv vt pc) (slices_pv h) (ix2 d q) = ∑ k : Fin 128, vt (ix2 d k) * pc h (ix2 k q) := by
  fin_cases h
  all_goals pointwise [tPv]
  all_goals refine Finset.sum_congr rfl fun x _ => ?_
  all_goals congr 1
  all_goals repeat first | rw [dif_neg (by omega)] | rw [dif_pos (by omega)]
  all_goals exact congrArg (fun z => pc _ (ix2 x z)) (Fin.ext (by dsimp only; omega))

/-- An accumulator entry after the tile. -/
theorem oAcc_apply (h : Fin 8) (d : Fin 256) (q : Fin 128) : oAcc heads st qs ks vs vt m c a h (ix2 d q) =
    a (ix2 d q) * oBeta heads st qs ks vs m c (ix2 h q)
      + ∑ k, vt (ix2 d k) * min (Ideal.ofBits FTy.f32 0x43E00000#32) (max (Ideal.ofBits FTy.f32 0xC3E00000#32) (oP heads st qs ks m h (ix2 k q))) := by
  simp only [← tCode_apply]
  rw [← tPv_apply vt (fun h => tCode (oP heads st qs ks m h))]
  generalize hx : oBeta heads st qs ks vs m c = x
  generalize hy : tPv vt (fun h => tCode (oP heads st qs ks m h)) = y
  have : oAcc heads st qs ks vs vt m c a h = tAcc x y a h := by rw [← hx, ← hy]; rfl
  rw [this]
  pointwise [tAcc, row]
end

theorem vals_apply (v : FVec Ideal S1x1x256x128 .fp8e4m3) (d : Fin 256) (k : Fin 128) : vals v (ix2 d k) = v (ix4 0 0 d k) := by
  pointwise [vals]

/-- The result of a head. -/
theorem yHead_apply (l c : FVec Ideal S8x128 .f32) (a : FVec Ideal S256x128 .f32) (h : Fin 8) (q : Fin 128) (d : Fin 256) :
    yHead l c a h (ix3 0 q d) = a (ix2 d q) * Ideal.div (c (ix2 h q)) (l (ix2 h q)) := by
  pointwise [yHead, row]

/-- The masked scores: a key after its query reads `⊥`. -/
theorem masked_apply (x : FVec Ideal S128x128 .f32) (k q : Fin 128) : masked x (ix2 k q) = if k.val ≤ q.val then x (ix2 k q) else ⊥ := by
  pointwise [masked]
  rw [ofBits_ninf]
  have h : (IntOp.cmpi .sle (BitVec.ofNat 32 k.val) (BitVec.ofNat 32 q.val)) = BitVec.ofBool (decide (k.val ≤ q.val)) :=
    (by decide +kernel : ∀ k q : Fin 128, (IntOp.cmpi .sle (BitVec.ofNat 32 k.val) (BitVec.ofNat 32 q.val)) = BitVec.ofBool (decide (k.val ≤ q.val))) k q
  rw [h]
  by_cases h2 : k.val ≤ q.val <;> simp [h2, Scalar.select]

end Cert.Tile
-- ==== Proof.Head.lean ====
/-
  The attention of one head at one block of queries over the extended reals: the step of the kernel, the step of the
  reference, and the invariant between them. A step takes a block of 128 keys.
-/
module

public import proofs.«01_k».proof.Proof.Scal

@[expose] public section

set_option maxRecDepth 16384

noncomputable section

namespace Cert.Head

open Idealize.ShloMosaic Cert.Expo Cert.Tile

/-- The maxima, sums and accumulator unit per query, and the accumulator per feature and query, of the kernel. -/
structure KSt where
  m : Fin 128 → EReal
  l : Fin 128 → EReal
  c : Fin 128 → EReal
  a : Fin 256 → Fin 128 → EReal

/-- The maxima, sums and accumulator of the reference. -/
structure RSt where
  m : Fin 128 → EReal
  l : Fin 128 → EReal
  a : Fin 128 → Fin 256 → EReal

/-- What a step reads: the raw scores (key by query, `⊥` where masked), the scales and the values. -/
structure Blk where
  S : Fin 128 → Fin 128 → EReal
  qs : EReal
  ks : EReal
  vs : EReal
  V : Fin 128 → Fin 256 → EReal

/-- The clipping to the range of the 8-bit codes. -/
def clip (x : EReal) : EReal := min (Ideal.ofBits FTy.f32 0x43E00000#32) (max (Ideal.ofBits FTy.f32 0xC3E00000#32) x)

section
variable (B : Blk) (s : KSt)
def kC : EReal := B.qs * B.ks * Ideal.ofBits .f32 0x3D800000#32
def kR (q : Fin 128) : EReal := (Finset.univ.fold max ⊥ fun k => B.S k q) * kC B
def kM (q : Fin 128) : EReal := max (s.m q) (kR B q)
def kAl (q : Fin 128) : EReal := Ideal.exp (s.m q - kM B s q)
def kT : EReal := Ideal.exp (Finset.univ.fold max ⊥ fun q => kR B q - kM B s q) * c448
def kP (k q : Fin 128) : EReal := Ideal.exp2 ((B.S k q - kM B s q * Ideal.div 1 (kC B)) * (kC B * log2e)) * pw (-sexp (kT B s))
def kL (q : Fin 128) : EReal := kAl B s q * s.l q + (∑ k, kP B s k q) * pw (sexp (kT B s))
def kCn : EReal := pw (sexp (kT B s)) * B.vs
def kA (d : Fin 256) (q : Fin 128) : EReal := s.a d q * (kAl B s q * (s.c q * Ideal.div 1 (kCn B s))) + ∑ k, B.V k d * clip (kP B s k q)
/-- The kernel's step. -/
def kstep : KSt := ⟨kM B s, kL B s, fun _ => kCn B s, kA B s⟩
end

section
variable (B : Blk) (s : RSt)
def rS (k q : Fin 128) : EReal := B.S k q * (B.qs * B.ks) * Ideal.ofBits .f32 0x3D800000#32
def rM (q : Fin 128) : EReal := max (s.m q) (Finset.univ.fold max ⊥ fun k => rS B k q)
def rAl (q : Fin 128) : EReal := Ideal.exp (s.m q - rM B s q)
def rP (q k : Fin 128) : EReal := Ideal.exp (rS B k q - rM B s q)
def rT : EReal := (Finset.univ.sup fun q => Finset.univ.sup fun k => rP B s q k) * c448
def rL (q : Fin 128) : EReal := rAl B s q * s.l q + ∑ k, rP B s q k
def rA (q : Fin 128) (d : Fin 256) : EReal :=
  rAl B s q * s.a q d + (∑ k, clip (rP B s q k * pw (-sexp (rT B s))) * B.V k d) * (pw (sexp (rT B s)) * B.vs)
/-- The reference's step. -/
def rstep : RSt := ⟨rM B s, rL B s, rA B s⟩
end

def kinit : KSt := ⟨fun _ => ⊥, fun _ => 0, fun _ => 1, fun _ _ => 0⟩
def rinit : RSt := ⟨fun _ => ⊥, fun _ => 0, fun _ _ => 0⟩

/-- What is read is real: scales are powers of two, values are real, scores are real or masked. -/
structure Blk.Ok (B : Blk) : Prop where
  qs : ∃ z, B.qs = pw z
  ks : ∃ z, B.ks = pw z
  vs : ∃ z, B.vs = pw z
  V : ∀ k d, ∃ r : ℝ, B.V k d = r
  S : ∀ k q, B.S k q = ⊥ ∨ ∃ r : ℝ, B.S k q = r

/-- The states of the kernel and the reference agree. -/
structure Inv (s : KSt) (t : RSt) : Prop where
  m : s.m = t.m
  l : s.l = t.l
  c : ∀ q, ∃ r : ℝ, 0 < r ∧ s.c q = r
  a : ∀ d q, ∃ r : ℝ, s.a d q = r
  acc : ∀ q d, t.a q d = s.a d q * s.c q
  ml : ∀ q, (s.m q = ⊥ ∧ s.l q = 0) ∨ ∃ μ l : ℝ, 0 < l ∧ s.m q = μ ∧ s.l q = l

theorem inv_init : Inv kinit rinit where
  m := rfl
  l := rfl
  c _ := ⟨1, one_pos, rfl⟩
  a _ _ := ⟨0, rfl⟩
  acc _ _ := by simp [kinit, rinit]
  ml _ := .inl ⟨rfl, rfl⟩

theorem exp_coe (r : ℝ) : Ideal.exp (r : EReal) = (Real.exp r : ℝ) := rfl
theorem exp_bot : Ideal.exp (⊥ : EReal) = 0 := rfl
theorem exp2_coe (r : ℝ) : Ideal.exp2 (r : EReal) = (Real.rpow 2 r : ℝ) := rfl
theorem exp2_bot : Ideal.exp2 (⊥ : EReal) = 0 := rfl

theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem exp_mono : Monotone Ideal.exp := by
  intro x y h
  induction x with
  | bot => rw [exp_bot]; induction y with
    | bot => exact le_rfl
    | top => exact le_top
    | coe r => rw [exp_coe]; exact_mod_cast (Real.exp_pos r).le
  | top => rw [top_le_iff.mp h]
  | coe r => induction y with
    | bot => exact absurd h (by simp)
    | top => exact le_top
    | coe t => rw [exp_coe, exp_coe]; exact_mod_cast Real.exp_le_exp.mpr (by exact_mod_cast h)

/-- A monotone function of a maximum over a nonempty set. -/
theorem map_sup (g : EReal → EReal) (hg : Monotone g) (f : Fin 128 → EReal) : g (Finset.univ.sup f) = Finset.univ.sup fun i => g (f i) := by
  apply le_antisymm
  · obtain ⟨i, -, h⟩ := Finset.exists_mem_eq_sup Finset.univ Finset.univ_nonempty f
    rw [h]; exact Finset.le_sup (f := fun i => g (f i)) (Finset.mem_univ i)
  · exact Finset.sup_le fun i _ => hg (Finset.le_sup (Finset.mem_univ i))

theorem mul_mono {c : ℝ} (hc : 0 < c) : Monotone fun x : EReal => x * (c : EReal) := by
  intro x y h
  exact mul_le_mul_of_nonneg_right h (by exact_mod_cast hc.le)

theorem sub_mono (c : ℝ) : Monotone fun x : EReal => x - (c : EReal) := by
  intro x y h
  exact EReal.sub_le_sub h le_rfl

theorem pw_coe (z : ℤ) : ∃ r : ℝ, 0 < r ∧ pw z = r := ⟨2 ^ z, by positivity, rfl⟩

theorem clip_coe (r : ℝ) : ∃ t : ℝ, clip r = t := by
  unfold clip; rw [ofBits_448, ofBits_n448]
  exact ⟨min 448 (max (-448) r), by push_cast; rfl⟩

end Cert.Head
-- ==== Proof.Quant.lean ====
/-
  The quantisers of the kernel: every head of the three of them computes the same functions of its block of 128 rows and
  256 features, `zCode` (the codes), `zScale` (the scale over the lanes) and `zTr` (the codes turned around).
-/
module

public import proofs.«01_k».proof.Proof.Words
public import proofs.«01_k».proof.Proof.Head
public import Idealize.ShloMosaic.Lib.Pipeline.ValueKit
public import Idealize.ShloMosaic.Lib.Pipeline.CanonAppend
import all proofs.«01_k».proof.Proof.Gen.KernelIdeal.Frame
public import proofs.«01_k».proof.Proof.Gen.KernelIdeal.Frame

@[expose] public section

set_option maxRecDepth 16384

noncomputable section

namespace Cert.Quant

open Idealize.ShloMosaic Idealize.ShloMosaic.TcCoe Cert.KernelIdeal Cert.KernelIdeal.Gen Cert.Expo Cert.Head

section
variable {F : FTy → Type} [FloatOps F] [Named F]
/-- The codes of a block. -/
def zCode (v : Vec F S1x128x256 .bf16) : FVec F S1x1x128x256 .fp8e4m3 := k0_pay5 (k0_pay4 v) (Scalar.ofBits .f32 0xC3E00000#32)
/-- The scale of a block, over the lanes. -/
def zScale (v : Vec F S1x128x256 .bf16) : FVec F S1x1x1x128 .f32 := k0_pay6 (F := F) (k0_pay3 v)
end

/-- The largest absolute value of a block. -/
def amax (v : Fin 128 → Fin 256 → EReal) : EReal := Finset.univ.sup fun r => Finset.univ.sup fun d => max (v r d) (-(v r d))
/-- The exponent of a block's scale. -/
def qexp (v : Fin 128 → Fin 256 → EReal) : ℤ := sexp (amax v * c448)
/-- The code of an element of a block. -/
def qcode (v : Fin 128 → Fin 256 → EReal) (r : Fin 128) (d : Fin 256) : EReal := clip (v r d * pw (-qexp v))

theorem fold_amax (v : Vec Ideal S1x128x256 .bf16) :
    Finset.fold max (Ideal.ofBits FTy.f32 0xFF800000#32) (fun x : Fin 128 × Fin 256 => (FloatOps.absf (F := Ideal) (φ := .f32) (v (ix3 0 x.1 x.2)))) Finset.univ
      = amax fun r d => v (ix3 0 r d) := by
  rw [ofBits_ninf]
  show Finset.univ.sup (fun x : Fin 128 × Fin 256 => max (v (ix3 0 x.1 x.2) : EReal) (-(v (ix3 0 x.1 x.2) : EReal))) = _
  rw [← Finset.univ_product_univ, Finset.sup_product_left]
  rfl

theorem zCode_apply (v : Vec Ideal S1x128x256 .bf16) (r : Fin 128) (d : Fin 256) :
    zCode v (ix4 0 0 r d) = qcode (fun r d => v (ix3 0 r d)) r d := by
  unfold qcode clip qexp
  rw [← ofBits_inv, eword]
  pointwise [zCode, k0_pay5, k0_pay4, k0_pay3, k0_pay2]
  rw [fold_amax]
  rfl

theorem zScale_apply (v : Vec Ideal S1x128x256 .bf16) (l : Fin 128) :
    zScale v (ix4 0 0 0 l) = pw (qexp fun r d => v (ix3 0 r d)) := by
  unfold qexp
  rw [← ofBits_scale, eword]
  pointwise [zScale, k0_pay6, k0_pay3, k0_pay2]
  rw [fold_amax]
  rfl

/-! The heads' rectangles. -/
theorem inb_x16 : ∀ h : Fin 16, ∀ a, (![0, 0, 256 * h.val] : Fin 3 → Nat) a + S1x128x256.size a ≤ S1x128x4096.size a := by decide
/-- The input columns of head `h`. -/
def xR16 (h : Fin 16) : Rect S1x128x4096 := Rect.unit (s := S1x128x4096) ![0, 0, 256 * h.val] S1x128x256.size (inb_x16 h)
theorem inb_c16 : ∀ h : Fin 16, ∀ a, (![0, h.val, 0, 0] : Fin 4 → Nat) a + S1x1x128x256.size a ≤ S1x16x128x256.size a := by decide
/-- The codes of head `h`. -/
def cR16 (h : Fin 16) : Rect S1x16x128x256 := Rect.unit (s := S1x16x128x256) ![0, h.val, 0, 0] S1x1x128x256.size (inb_c16 h)
theorem inb_s16 : ∀ h : Fin 16, ∀ a, (![0, 0, h.val, 0] : Fin 4 → Nat) a + S1x1x1x128.size a ≤ S1x1x16x128.size a := by decide
/-- The scale of head `h`. -/
def sR16 (h : Fin 16) : Rect S1x1x16x128 := Rect.unit (s := S1x1x16x128) ![0, 0, h.val, 0] S1x1x1x128.size (inb_s16 h)
/-- The heads in the order of the stores, the last first. -/
def order16 : List (Fin 16) := [15, 14, 13, 12, 11, 10, 9, 8, 7, 6, 5, 4, 3, 2, 1, 0]
theorem mem_order16 : ∀ h : Fin 16, h ∈ order16 := by decide

theorem inb_x2 : ∀ h : Fin 2, ∀ a, (![0, 0, 256 * h.val] : Fin 3 → Nat) a + S1x128x256.size a ≤ S1x128x512.size a := by decide
/-- The input columns of head `h`, of two. -/
def xR2 (h : Fin 2) : Rect S1x128x512 := Rect.unit (s := S1x128x512) ![0, 0, 256 * h.val] S1x128x256.size (inb_x2 h)
theorem inb_c2 : ∀ h : Fin 2, ∀ a, (![0, h.val, 0, 0] : Fin 4 → Nat) a + S1x1x128x256.size a ≤ S1x2x128x256.size a := by decide
/-- The codes of head `h`, of two. -/
def cR2 (h : Fin 2) : Rect S1x2x128x256 := Rect.unit (s := S1x2x128x256) ![0, h.val, 0, 0] S1x1x128x256.size (inb_c2 h)
theorem inb_s2 : ∀ h : Fin 2, ∀ a, (![0, 0, h.val, 0] : Fin 4 → Nat) a + S1x1x1x128.size a ≤ S1x1x2x128.size a := by decide
/-- The scale of head `h`, of two. -/
def sR2 (h : Fin 2) : Rect S1x1x2x128 := Rect.unit (s := S1x1x2x128) ![0, 0, h.val, 0] S1x1x1x128.size (inb_s2 h)
theorem inb_t2 : ∀ h : Fin 2, ∀ a, (![0, h.val, 0, 0] : Fin 4 → Nat) a + S1x1x256x128.size a ≤ S1x2x256x128.size a := by decide
/-- The codes of head `h` turned around, of two. -/
def tR2 (h : Fin 2) : Rect S1x2x256x128 := Rect.unit (s := S1x2x256x128) ![0, h.val, 0, 0] S1x1x256x128.size (inb_t2 h)
/-- The two heads in the order of the stores. -/
def order2 : List (Fin 2) := [1, 0]
theorem mem_order2 : ∀ h : Fin 2, h ∈ order2 := by decide

section
variable {F : FTy → Type} [FloatOps F] [Named F]
/-- The codes of a block, turned around. -/
def zTr (v : Vec F S1x128x256 .bf16) : FVec F S1x1x256x128 .fp8e4m3 := k2_pay9 (k0_pay4 v) (Scalar.ofBits .f32 0xC3E00000#32)

theorem out0_1_eq (x0 : Vec F S1x128x4096 .bf16) : out0_1 x0 = View.canon (order16.map fun h => ⟨cR16 h, zCode (View.ld x0 (xR16 h))⟩) := by
  unfold out0_1; rfl
theorem out0_2_eq (x0 : Vec F S1x128x4096 .bf16) : out0_2 x0 = View.canon (order16.map fun h => ⟨sR16 h, zScale (View.ld x0 (xR16 h))⟩) := by
  unfold out0_2; rfl
theorem out1_1_eq (x0 : Vec F S1x128x512 .bf16) : out1_1 x0 = View.canon (order2.map fun h => ⟨cR2 h, zCode (View.ld x0 (xR2 h))⟩) := by
  unfold out1_1; rfl
theorem out1_2_eq (x0 : Vec F S1x128x512 .bf16) : out1_2 x0 = View.canon (order2.map fun h => ⟨sR2 h, zScale (View.ld x0 (xR2 h))⟩) := by
  unfold out1_2; rfl
theorem out2_1_eq (x0 : Vec F S1x128x512 .bf16) : out2_1 x0 = View.canon (order2.map fun h => ⟨cR2 h, zCode (View.ld x0 (xR2 h))⟩) := by
  unfold out2_1; rfl
theorem out2_2_eq (x0 : Vec F S1x128x512 .bf16) : out2_2 x0 = View.canon (order2.map fun h => ⟨sR2 h, zScale (View.ld x0 (xR2 h))⟩) := by
  unfold out2_2; rfl
theorem out2_3_eq (x0 : Vec F S1x128x512 .bf16) : out2_3 x0 = View.canon (order2.map fun h => ⟨tR2 h, zTr (View.ld x0 (xR2 h))⟩) := by
  unfold out2_3; rfl
end

theorem zTr_apply (v : Vec Ideal S1x128x256 .bf16) (d : Fin 256) (r : Fin 128) :
    zTr v (ix4 0 0 d r) = qcode (fun r d => v (ix3 0 r d)) r d := by
  unfold qcode clip qexp
  rw [← ofBits_inv, eword]
  pointwise [zTr, k2_pay9, k2_pay5, k2_pay6, k0_pay4, k0_pay3, k0_pay2]
  rw [fold_amax]
  rfl

/-- Stores that are blocks of `G`, one per entry of a list, leave `G` where one of them covers. -/
theorem canon_map {s : Shape} {e : EltTy} {n : Nat} (L : List (Fin n)) (R : Fin n → Rect s) (w : ∀ h, (R h).shape.Idx → Elt Ideal e)
    (G : s.Idx → Elt Ideal e) (hG : ∀ h x, w h x = G ((R h).emb x)) (y : s.Idx) (h : Fin n) (hL : h ∈ L) (hy : y ∈ (R h).set) :
    View.canon (L.map fun h => ⟨R h, w h⟩) y = G y := by
  have := View.canon_append_of_pieces (Val := Elt Ideal) G [] (L.map fun h => ⟨R h, w h⟩) (fun p hp x => by
    obtain ⟨k, _, rfl⟩ := List.mem_map.mp hp
    exact hG k x) y ⟨_, List.mem_map.mpr ⟨h, hL, rfl⟩, hy⟩
  rwa [List.append_nil] at this

theorem cR16_emb (h : Fin 16) (r : Fin 128) (d : Fin 256) : (cR16 h).emb (ix4 0 0 r d) = ix4 0 h r d := by
  unfold cR16; blk_ext []
theorem sR16_emb (h : Fin 16) (l : Fin 128) : (sR16 h).emb (ix4 0 0 0 l) = ix4 0 0 h l := by
  unfold sR16; blk_ext []
theorem xR16_ld (x0 : Vec Ideal S1x128x4096 .bf16) (h : Fin 16) (r : Fin 128) (d : Fin 256) :
    View.ld x0 (xR16 h) (ix3 0 r d) = x0 (ix3 0 r ⟨256 * h.val + d.val, by omega⟩) := by
  unfold xR16; pointwise []

theorem cR2_emb (h : Fin 2) (r : Fin 128) (d : Fin 256) : (cR2 h).emb (ix4 0 0 r d) = ix4 0 h r d := by
  unfold cR2; blk_ext []
theorem tR2_emb (h : Fin 2) (d : Fin 256) (r : Fin 128) : (tR2 h).emb (ix4 0 0 d r) = ix4 0 h d r := by
  unfold tR2; blk_ext []
theorem sR2_emb (h : Fin 2) (l : Fin 128) : (sR2 h).emb (ix4 0 0 0 l) = ix4 0 0 h l := by
  unfold sR2; blk_ext []
theorem xR2_ld (x0 : Vec Ideal S1x128x512 .bf16) (h : Fin 2) (r : Fin 128) (d : Fin 256) :
    View.ld x0 (xR2 h) (ix3 0 r d) = x0 (ix3 0 r ⟨256 * h.val + d.val, by omega⟩) := by
  unfold xR2; pointwise []

theorem emb_mem {s : Shape} (r : Rect s) (x : r.shape.Idx) : r.emb x ∈ r.set := by
  rw [← Rect.map_emb_univ]; exact Finset.mem_map_of_mem _ (Finset.mem_univ x)

/-- The block of head `h` in the columns of sixteen heads. -/
def blk16 (x0 : Vec Ideal S1x128x4096 .bf16) (h : Fin 16) (r : Fin 128) (d : Fin 256) : EReal := x0 (ix3 0 r ⟨256 * h.val + d.val, by omega⟩)
/-- The block of head `h` in the columns of two heads. -/
def blk2 (x0 : Vec Ideal S1x128x512 .bf16) (h : Fin 2) (r : Fin 128) (d : Fin 256) : EReal := x0 (ix3 0 r ⟨256 * h.val + d.val, by omega⟩)

theorem idx_c (x : S1x1x128x256.Idx) : ∃ (r : Fin 128) (d : Fin 256), x = ix4 0 0 r d :=
  ⟨x 2, x 3, by ext a; match a with | 0 => (have := (x 0).isLt; exact Nat.lt_one_iff.mp this) | 1 => (have := (x 1).isLt; exact Nat.lt_one_iff.mp this) | 2 => rfl | 3 => rfl⟩
theorem idx_t (x : S1x1x256x128.Idx) : ∃ (d : Fin 256) (r : Fin 128), x = ix4 0 0 d r :=
  ⟨x 2, x 3, by ext a; match a with | 0 => (have := (x 0).isLt; exact Nat.lt_one_iff.mp this) | 1 => (have := (x 1).isLt; exact Nat.lt_one_iff.mp this) | 2 => rfl | 3 => rfl⟩
theorem idx_s (x : S1x1x1x128.Idx) : ∃ (l : Fin 128), x = ix4 0 0 0 l :=
  ⟨x 3, by ext a; match a with | 0 => (have := (x 0).isLt; exact Nat.lt_one_iff.mp this) | 1 => (have := (x 1).isLt; exact Nat.lt_one_iff.mp this) | 2 => (have := (x 2).isLt; exact Nat.lt_one_iff.mp this) | 3 => rfl⟩

theorem out0_1_apply (x0 : Vec Ideal S1x128x4096 .bf16) (h : Fin 16) (r : Fin 128) (d : Fin 256) : out0_1 x0 (ix4 0 h r d) = qcode (blk16 x0 h) r d := by
  rw [out0_1_eq]
  refine (canon_map order16 cR16 _ (fun y => qcode (blk16 x0 (y 1)) (y 2) (y 3)) (fun k x => ?_) _ h (mem_order16 h) ?_).trans rfl
  · obtain ⟨r, d, rfl⟩ := idx_c x
    refine (zCode_apply _ r d).trans ?_
    rw [show (fun r d => View.ld x0 (xR16 k) (ix3 0 r d)) = blk16 x0 k from by funext r d; exact xR16_ld x0 k r d]
    rw [cR16_emb]; rfl
  · rw [← cR16_emb]; exact emb_mem _ _

theorem out0_2_apply (x0 : Vec Ideal S1x128x4096 .bf16) (h : Fin 16) (l : Fin 128) : out0_2 x0 (ix4 0 0 h l) = pw (qexp (blk16 x0 h)) := by
  rw [out0_2_eq]
  refine (canon_map order16 sR16 _ (fun y => pw (qexp (blk16 x0 (y 2)))) (fun k x => ?_) _ h (mem_order16 h) ?_).trans rfl
  · obtain ⟨l, rfl⟩ := idx_s x
    refine (zScale_apply _ l).trans ?_
    rw [show (fun r d => View.ld x0 (xR16 k) (ix3 0 r d)) = blk16 x0 k from by funext r d; exact xR16_ld x0 k r d]
    rw [sR16_emb]; rfl
  · rw [← sR16_emb]; exact emb_mem _ _

theorem out1_1_apply (x0 : Vec Ideal S1x128x512 .bf16) (h : Fin 2) (r : Fin 128) (d : Fin 256) : out1_1 x0 (ix4 0 h r d) = qcode (blk2 x0 h) r d := by
  rw [out1_1_eq]
  refine (canon_map order2 cR2 _ (fun y => qcode (blk2 x0 (y 1)) (y 2) (y 3)) (fun k x => ?_) _ h (mem_order2 h) ?_).trans rfl
  · obtain ⟨r, d, rfl⟩ := idx_c x
    refine (zCode_apply _ r d).trans ?_
    rw [show (fun r d => View.ld x0 (xR2 k) (ix3 0 r d)) = blk2 x0 k from by funext r d; exact xR2_ld x0 k r d]
    rw [cR2_emb]; rfl
  · rw [← cR2_emb]; exact emb_mem _ _

theorem out1_2_apply (x0 : Vec Ideal S1x128x512 .bf16) (h : Fin 2) (l : Fin 128) : out1_2 x0 (ix4 0 0 h l) = pw (qexp (blk2 x0 h)) := by
  rw [out1_2_eq]
  refine (canon_map order2 sR2 _ (fun y => pw (qexp (blk2 x0 (y 2)))) (fun k x => ?_) _ h (mem_order2 h) ?_).trans rfl
  · obtain ⟨l, rfl⟩ := idx_s x
    refine (zScale_apply _ l).trans ?_
    rw [show (fun r d => View.ld x0 (xR2 k) (ix3 0 r d)) = blk2 x0 k from by funext r d; exact xR2_ld x0 k r d]
    rw [sR2_emb]; rfl
  · rw [← sR2_emb]; exact emb_mem _ _

theorem out2_1_apply (x0 : Vec Ideal S1x128x512 .bf16) (h : Fin 2) (r : Fin 128) (d : Fin 256) : out2_1 x0 (ix4 0 h r d) = qcode (blk2 x0 h) r d := by
  rw [out2_1_eq]
  refine (canon_map order2 cR2 _ (fun y => qcode (blk2 x0 (y 1)) (y 2) (y 3)) (fun k x => ?_) _ h (mem_order2 h) ?_).trans rfl
  · obtain ⟨r, d, rfl⟩ := idx_c x
    refine (zCode_apply _ r d).trans ?_
    rw [show (fun r d => View.ld x0 (xR2 k) (ix3 0 r d)) = blk2 x0 k from by funext r d; exact xR2_ld x0 k r d]
    rw [cR2_emb]; rfl
  · rw [← cR2_emb]; exact emb_mem _ _

theorem out2_2_apply (x0 : Vec Ideal S1x128x512 .bf16) (h : Fin 2) (l : Fin 128) : out2_2 x0 (ix4 0 0 h l) = pw (qexp (blk2 x0 h)) := by
  rw [out2_2_eq]
  refine (canon_map order2 sR2 _ (fun y => pw (qexp (blk2 x0 (y 2)))) (fun k x => ?_) _ h (mem_order2 h) ?_).trans rfl
  · obtain ⟨l, rfl⟩ := idx_s x
    refine (zScale_apply _ l).trans ?_
    rw [show (fun r d => View.ld x0 (xR2 k) (ix3 0 r d)) = blk2 x0 k from by funext r d; exact xR2_ld x0 k r d]
    rw [sR2_emb]; rfl
  · rw [← sR2_emb]; exact emb_mem _ _

theorem out2_3_apply (x0 : Vec Ideal S1x128x512 .bf16) (h : Fin 2) (d : Fin 256) (r : Fin 128) : out2_3 x0 (ix4 0 h d r) = qcode (blk2 x0 h) r d := by
  rw [out2_3_eq]
  refine (canon_map order2 tR2 _ (fun y => qcode (blk2 x0 (y 1)) (y 3) (y 2)) (fun k x => ?_) _ h (mem_order2 h) ?_).trans rfl
  · obtain ⟨d, r, rfl⟩ := idx_t x
    refine (zTr_apply _ d r).trans ?_
    rw [show (fun r d => View.ld x0 (xR2 k) (ix3 0 r d)) = blk2 x0 k from by funext r d; exact xR2_ld x0 k r d]
    rw [tR2_emb]; rfl
  · rw [← tR2_emb]; exact emb_mem _ _

end Cert.Quant
-- ==== Proof.Spec.lean ====
/-
  What the quantisers leave, as functions of the whole arrays: an array of rows and features is cut into blocks of 128
  rows of one head; every block has its codes and its scale.
-/
module

public import proofs.«01_k».proof.Proof.Quant

@[expose] public section

set_option maxRecDepth 16384

noncomputable section

namespace Cert.Spec

open Idealize.ShloMosaic Idealize.ShloMosaic.TcCoe Cert.KernelIdeal Cert.Expo Cert.Head Cert.Quant

/-- Row `r` of block `i`. -/
def row (i : Fin 32) (r : Fin 128) : Fin 4096 := ⟨128 * i.val + r.val, by omega⟩
/-- The block of a row. -/
def rowBlk (s : Fin 4096) : Fin 32 := ⟨s.val / 128, by omega⟩
/-- The place of a row in its block. -/
def rowPos (s : Fin 4096) : Fin 128 := ⟨s.val % 128, Nat.mod_lt _ (by omega)⟩

theorem rowBlk_row (i : Fin 32) (r : Fin 128) : rowBlk (row i r) = i := Fin.ext (by unfold rowBlk row; dsimp only; omega)
theorem rowPos_row (i : Fin 32) (r : Fin 128) : rowPos (row i r) = r := Fin.ext (by unfold rowPos row; dsimp only; omega)

/-- Block `i` of head `h` of batch entry `b`, sixteen heads. -/
def xblk (X : Vec Ideal S8x4096x4096 .bf16) (b : Fin 8) (h : Fin 16) (i : Fin 32) (r : Fin 128) (d : Fin 256) : EReal :=
  X (ix3 b (row i r) ⟨256 * h.val + d.val, by omega⟩)
/-- Block `i` of head `h` of batch entry `b`, two heads. -/
def kblk (X : Vec Ideal S8x4096x512 .bf16) (b : Fin 8) (h : Fin 2) (i : Fin 32) (r : Fin 128) (d : Fin 256) : EReal :=
  X (ix3 b (row i r) ⟨256 * h.val + d.val, by omega⟩)

/-- The codes of sixteen heads. -/
def codes16 (X : Vec Ideal S8x4096x4096 .bf16) : Vec Ideal S8x16x4096x256 .fp8e4m3 :=
  fun y => qcode (xblk X (y 0) (y 1) (rowBlk (y 2))) (rowPos (y 2)) (y 3)
/-- The scales of sixteen heads. -/
def scales16 (X : Vec Ideal S8x4096x4096 .bf16) : Vec Ideal S8x16x32 .f32 := fun y => pw (qexp (xblk X (y 0) (y 1) (y 2)))
/-- The scales of sixteen heads, spread over lanes. -/
def lanes16 (X : Vec Ideal S8x4096x4096 .bf16) : Vec Ideal S8x32x16x128 .f32 := fun y => pw (qexp (xblk X (y 0) (y 2) (y 1)))
/-- The codes of two heads. -/
def codes2 (X : Vec Ideal S8x4096x512 .bf16) : Vec Ideal S8x2x4096x256 .fp8e4m3 :=
  fun y => qcode (kblk X (y 0) (y 1) (rowBlk (y 2))) (rowPos (y 2)) (y 3)
/-- The codes of two heads, turned around. -/
def codesT2 (X : Vec Ideal S8x4096x512 .bf16) : Vec Ideal S8x2x256x4096 .fp8e4m3 :=
  fun y => qcode (kblk X (y 0) (y 1) (rowBlk (y 3))) (rowPos (y 3)) (y 2)
/-- The scales of two heads. -/
def scales2 (X : Vec Ideal S8x4096x512 .bf16) : Vec Ideal S8x2x32 .f32 := fun y => pw (qexp (kblk X (y 0) (y 1) (y 2)))
/-- The scales of two heads, spread over lanes. -/
def lanes2 (X : Vec Ideal S8x4096x512 .bf16) : Vec Ideal S8x32x2x128 .f32 := fun y => pw (qexp (kblk X (y 0) (y 2) (y 1)))

theorem codes16_row (X : Vec Ideal S8x4096x4096 .bf16) (b : Fin 8) (h : Fin 16) (i : Fin 32) (r : Fin 128) (d : Fin 256) :
    codes16 X (ix4 b h (row i r) d) = qcode (xblk X b h i) r d := by
  show qcode (xblk X b h (rowBlk (row i r))) (rowPos (row i r)) d = _
  rw [rowBlk_row, rowPos_row]
theorem codes2_row (X : Vec Ideal S8x4096x512 .bf16) (b : Fin 8) (h : Fin 2) (i : Fin 32) (r : Fin 128) (d : Fin 256) :
    codes2 X (ix4 b h (row i r) d) = qcode (kblk X b h i) r d := by
  show qcode (kblk X b h (rowBlk (row i r))) (rowPos (row i r)) d = _
  rw [rowBlk_row, rowPos_row]
theorem codesT2_row (X : Vec Ideal S8x4096x512 .bf16) (b : Fin 8) (h : Fin 2) (i : Fin 32) (r : Fin 128) (d : Fin 256) :
    codesT2 X (ix4 b h d (row i r)) = qcode (kblk X b h i) r d := by
  show qcode (kblk X b h (rowBlk (row i r))) (rowPos (row i r)) d = _
  rw [rowBlk_row, rowPos_row]

end Cert.Spec
end
-- ==== Proof.Arr.lean ====
/-
  The arrays that the three quantiser calls leave, whole.
-/
module

public import proofs.«01_k».proof.Proof.Spec
public import Idealize.ShloMosaic.Lib.Pipeline.ValueKit
public import Idealize.ShloMosaic.Lib.Pipeline.Covers
import all proofs.«01_k».proof.Proof.Gen.KernelIdeal.Frame
public import proofs.«01_k».proof.Proof.Gen.KernelIdeal.Frame

@[expose] public section

set_option maxRecDepth 16384

noncomputable section

namespace Cert.Arr

open Idealize.ShloMosaic Idealize.ShloMosaic.TcCoe Cert.KernelIdeal Cert.KernelIdeal.Gen Cert.Expo Cert.Head Cert.Quant Cert.Spec

theorem split_c (n : Nat) (y : (⟨4, ![1, n, 128, 256]⟩ : Shape).Idx) : ∃ (h : Fin n) (r : Fin 128) (d : Fin 256), y = ix4 0 h r d :=
  ⟨y 1, y 2, y 3, by ext a; match a with | 0 => (have := (y 0).isLt; exact Nat.lt_one_iff.mp this) | 1 => rfl | 2 => rfl | 3 => rfl⟩
theorem split_t (n : Nat) (y : (⟨4, ![1, n, 256, 128]⟩ : Shape).Idx) : ∃ (h : Fin n) (r : Fin 128) (d : Fin 256), y = ix4 0 h d r :=
  ⟨y 1, y 3, y 2, by ext a; match a with | 0 => (have := (y 0).isLt; exact Nat.lt_one_iff.mp this) | 1 => rfl | 2 => rfl | 3 => rfl⟩
theorem split_s (n : Nat) (y : (⟨4, ![1, 1, n, 128]⟩ : Shape).Idx) : ∃ (h : Fin n) (l : Fin 128), y = ix4 0 0 h l :=
  ⟨y 2, y 3, by ext a; match a with | 0 => (have := (y 0).isLt; exact Nat.lt_one_iff.mp this) | 1 => (have := (y 1).isLt; exact Nat.lt_one_iff.mp this) | 2 => rfl | 3 => rfl⟩

variable (V : (c : Dev nD) → (b : Ref sig .tc) → Buf (Elt Ideal) ((c : Thread nD τ).loc b)) (c : Dev nD)

theorem idx0_0 : ∀ t : Fin grid0.N, win0_0.index t = ![(grid0.coords t 0).val, (grid0.coords t 1).val, 0] := by decide +kernel

theorem blk0_eq (t : Fin cfg0.N) (h : Fin 16) : blk16 (iblk0 V c 0 t) h = xblk (V c main_arg0) (grid0.coords t 0) h (grid0.coords t 1) := by
  funext r d
  unfold blk16 xblk row
  blk_ext [iblk0, idx0_0 t]

theorem idx0_1 : ∀ t : Fin grid0.N, win0_1.index t = ![(grid0.coords t 0).val, 0, (grid0.coords t 1).val, 0] := by decide +kernel

theorem emb0_1 (t : Fin cfg0.N) (h : Fin 16) (r : Fin 128) (d : Fin 256) : ((cfg0.win 1).blk t).view.emb (ix4 0 h r d) = (ix4 (grid0.coords t 0) h (row (grid0.coords t 1) r) d) := by
  unfold row
  blk_ext [idx0_1 t]

theorem pt0_1 (t : Fin cfg0.N) (h : Fin 16) (r : Fin 128) (d : Fin 256) : out0_1 (iblk0 V c 0 t) (ix4 0 h r d) = codes16 (V c main_arg0) (ix4 (grid0.coords t 0) h (row (grid0.coords t 1) r) d) := by
  refine (out0_1_apply _ h r d).trans ?_
  exact (congrArg (fun B => qcode B r d) (blk0_eq V c t h)).trans (codes16_row (V c main_arg0) (grid0.coords t 0) h (grid0.coords t 1) r d).symm

theorem cov0_1 : (cfg0.win 1).Covers := by
  refine (cfg0.win 1).covers_of_index_surj rfl (by decide) fun β => ?_
  obtain ⟨t, ht⟩ := grid0.coords_surjective (fun a => match a with | 0 => β 0 | 1 => β 2)
  refine ⟨t, fun a => (congrFun (idx0_1 t) a).trans ?_⟩
  rw [ht]
  match a with | 0 => rfl | 1 => (have := (β 1).isLt; exact (Nat.lt_one_iff.mp this).symm) | 2 => rfl | 3 => (have := (β 3).isLt; exact (Nat.lt_one_iff.mp this).symm)

theorem codes16_0 : (dat0 V c).arrAt 1 cfg0.N = codes16 (V c main_arg0) := by
  refine (dat0 V c).arrAt_eq_of_covers 1 _ cov0_1 fun t hf y => ?_
  blk_simp
  rw [after0_1]
  obtain ⟨h, r, d, rfl⟩ := split_c 16 y
  exact (pt0_1 V c t h r d).trans (congrArg (codes16 (V c main_arg0)) (emb0_1 t h r d).symm)

theorem idx0_2 : ∀ t : Fin grid0.N, win0_2.index t = ![(grid0.coords t 0).val, (grid0.coords t 1).val, 0, 0] := by decide +kernel

theorem emb0_2 (t : Fin cfg0.N) (h : Fin 16) (l : Fin 128) : ((cfg0.win 2).blk t).view.emb (ix4 0 0 h l) = (ix4 (grid0.coords t 0) (grid0.coords t 1) h l) := by
  blk_ext [idx0_2 t]

theorem pt0_2 (t : Fin cfg0.N) (h : Fin 16) (l : Fin 128) : out0_2 (iblk0 V c 0 t) (ix4 0 0 h l) = lanes16 (V c main_arg0) (ix4 (grid0.coords t 0) (grid0.coords t 1) h l) := by
  refine (out0_2_apply _ h l).trans ?_
  exact congrArg (fun B => pw (qexp B)) (blk0_eq V c t h)

theorem cov0_2 : (cfg0.win 2).Covers := by
  refine (cfg0.win 2).covers_of_index_surj rfl (by decide) fun β => ?_
  obtain ⟨t, ht⟩ := grid0.coords_surjective (fun a => match a with | 0 => β 0 | 1 => β 1)
  refine ⟨t, fun a => (congrFun (idx0_2 t) a).trans ?_⟩
  rw [ht]
  match a with | 0 => rfl | 1 => rfl | 2 => (have := (β 2).isLt; exact (Nat.lt_one_iff.mp this).symm) | 3 => (have := (β 3).isLt; exact (Nat.lt_one_iff.mp this).symm)

theorem lanes16_0 : (dat0 V c).arrAt 2 cfg0.N = lanes16 (V c main_arg0) := by
  refine (dat0 V c).arrAt_eq_of_covers 2 _ cov0_2 fun t hf y => ?_
  blk_simp
  rw [after0_2]
  obtain ⟨h, l, rfl⟩ := split_s 16 y
  exact (pt0_2 V c t h l).trans (congrArg (lanes16 (V c main_arg0)) (emb0_2 t h l).symm)

theorem idx1_0 : ∀ t : Fin grid1.N, win1_0.index t = ![(grid1.coords t 0).val, (grid1.coords t 1).val, 0] := by decide +kernel

theorem blk1_eq (t : Fin cfg1.N) (h : Fin 2) : blk2 (iblk1 V c 0 t) h = kblk (V c main_arg1) (grid1.coords t 0) h (grid1.coords t 1) := by
  funext r d
  unfold blk2 kblk row
  blk_ext [iblk1, idx1_0 t]

theorem idx1_1 : ∀ t : Fin grid1.N, win1_1.index t = ![(grid1.coords t 0).val, 0, (grid1.coords t 1).val, 0] := by decide +kernel

theorem emb1_1 (t : Fin cfg1.N) (h : Fin 2) (r : Fin 128) (d : Fin 256) : ((cfg1.win 1).blk t).view.emb (ix4 0 h r d) = (ix4 (grid1.coords t 0) h (row (grid1.coords t 1) r) d) := by
  unfold row
  blk_ext [idx1_1 t]

theorem pt1_1 (t : Fin cfg1.N) (h : Fin 2) (r : Fin 128) (d : Fin 256) : out1_1 (iblk1 V c 0 t) (ix4 0 h r d) = codes2 (V c main_arg1) (ix4 (grid1.coords t 0) h (row (grid1.coords t 1) r) d) := by
  refine (out1_1_apply _ h r d).trans ?_
  exact (congrArg (fun B => qcode B r d) (blk1_eq V c t h)).trans (codes2_row (V c main_arg1) (grid1.coords t 0) h (grid1.coords t 1) r d).symm

theorem cov1_1 : (cfg1.win 1).Covers := by
  refine (cfg1.win 1).covers_of_index_surj rfl (by decide) fun β => ?_
  obtain ⟨t, ht⟩ := grid1.coords_surjective (fun a => match a with | 0 => β 0 | 1 => β 2)
  refine ⟨t, fun a => (congrFun (idx1_1 t) a).trans ?_⟩
  rw [ht]
  match a with | 0 => rfl | 1 => (have := (β 1).isLt; exact (Nat.lt_one_iff.mp this).symm) | 2 => rfl | 3 => (have := (β 3).isLt; exact (Nat.lt_one_iff.mp this).symm)

theorem codes2_1 : (dat1 V c).arrAt 1 cfg1.N = codes2 (V c main_arg1) := by
  refine (dat1 V c).arrAt_eq_of_covers 1 _ cov1_1 fun t hf y => ?_
  blk_simp
  rw [after1_1]
  obtain ⟨h, r, d, rfl⟩ := split_c 2 y
  exact (pt1_1 V c t h r d).trans (congrArg (codes2 (V c main_arg1)) (emb1_1 t h r d).symm)

theorem idx1_2 : ∀ t : Fin grid1.N, win1_2.index t = ![(grid1.coords t 0).val, (grid1.coords t 1).val, 0, 0] := by decide +kernel

theorem emb1_2 (t : Fin cfg1.N) (h : Fin 2) (l : Fin 128) : ((cfg1.win 2).blk t).view.emb (ix4 0 0 h l) = (ix4 (grid1.coords t 0) (grid1.coords t 1) h l) := by
  blk_ext [idx1_2 t]

theorem pt1_2 (t : Fin cfg1.N) (h : Fin 2) (l : Fin 128) : out1_2 (iblk1 V c 0 t) (ix4 0 0 h l) = lanes2 (V c main_arg1) (ix4 (grid1.coords t 0) (grid1.coords t 1) h l) := by
  refine (out1_2_apply _ h l).trans ?_
  exact congrArg (fun B => pw (qexp B)) (blk1_eq V c t h)

theorem cov1_2 : (cfg1.win 2).Covers := by
  refine (cfg1.win 2).covers_of_index_surj rfl (by decide) fun β => ?_
  obtain ⟨t, ht⟩ := grid1.coords_surjective (fun a => match a with | 0 => β 0 | 1 => β 1)
  refine ⟨t, fun a => (congrFun (idx1_2 t) a).trans ?_⟩
  rw [ht]
  match a with | 0 => rfl | 1 => rfl | 2 => (have := (β 2).isLt; exact (Nat.lt_one_iff.mp this).symm) | 3 => (have := (β 3).isLt; exact (Nat.lt_one_iff.mp this).symm)

theorem lanes2_1 : (dat1 V c).arrAt 2 cfg1.N = lanes2 (V c main_arg1) := by
  refine (dat1 V c).arrAt_eq_of_covers 2 _ cov1_2 fun t hf y => ?_
  blk_simp
  rw [after1_2]
  obtain ⟨h, l, rfl⟩ := split_s 2 y
  exact (pt1_2 V c t h l).trans (congrArg (lanes2 (V c main_arg1)) (emb1_2 t h l).symm)

theorem idx2_0 : ∀ t : Fin grid2.N, win2_0.index t = ![(grid2.coords t 0).val, (grid2.coords t 1).val, 0] := by decide +kernel

theorem blk2_eq (t : Fin cfg2.N) (h : Fin 2) : blk2 (iblk2 V c 0 t) h = kblk (V c main_arg2) (grid2.coords t 0) h (grid2.coords t 1) := by
  funext r d
  unfold blk2 kblk row
  blk_ext [iblk2, idx2_0 t]

theorem idx2_1 : ∀ t : Fin grid2.N, win2_1.index t = ![(grid2.coords t 0).val, 0, (grid2.coords t 1).val, 0] := by decide +kernel

theorem emb2_1 (t : Fin cfg2.N) (h : Fin 2) (r : Fin 128) (d : Fin 256) : ((cfg2.win 1).blk t).view.emb (ix4 0 h r d) = (ix4 (grid2.coords t 0) h (row (grid2.coords t 1) r) d) := by
  unfold row
  blk_ext [idx2_1 t]

theorem pt2_1 (t : Fin cfg2.N) (h : Fin 2) (r : Fin 128) (d : Fin 256) : out2_1 (iblk2 V c 0 t) (ix4 0 h r d) = codes2 (V c main_arg2) (ix4 (grid2.coords t 0) h (row (grid2.coords t 1) r) d) := by
  refine (out2_1_apply _ h r d).trans ?_
  exact (congrArg (fun B => qcode B r d) (blk2_eq V c t h)).trans (codes2_row (V c main_arg2) (grid2.coords t 0) h (grid2.coords t 1) r d).symm

theorem cov2_1 : (cfg2.win 1).Covers := by
  refine (cfg2.win 1).covers_of_index_surj rfl (by decide) fun β => ?_
  obtain ⟨t, ht⟩ := grid2.coords_surjective (fun a => match a with | 0 => β 0 | 1 => β 2)
  refine ⟨t, fun a => (congrFun (idx2_1 t) a).trans ?_⟩
  rw [ht]
  match a with | 0 => rfl | 1 => (have := (β 1).isLt; exact (Nat.lt_one_iff.mp this).symm) | 2 => rfl | 3 => (have := (β 3).isLt; exact (Nat.lt_one_iff.mp this).symm)

theorem codes2_2 : (dat2 V c).arrAt 1 cfg2.N = codes2 (V c main_arg2) := by
  refine (dat2 V c).arrAt_eq_of_covers 1 _ cov2_1 fun t hf y => ?_
  blk_simp
  rw [after2_1]
  obtain ⟨h, r, d, rfl⟩ := split_c 2 y
  exact (pt2_1 V c t h r d).trans (congrArg (codes2 (V c main_arg2)) (emb2_1 t h r d).symm)

theorem idx2_2 : ∀ t : Fin grid2.N, win2_2.index t = ![(grid2.coords t 0).val, (grid2.coords t 1).val, 0, 0] := by decide +kernel

theorem emb2_2 (t : Fin cfg2.N) (h : Fin 2) (l : Fin 128) : ((cfg2.win 2).blk t).view.emb (ix4 0 0 h l) = (ix4 (grid2.coords t 0) (grid2.coords t 1) h l) := by
  blk_ext [idx2_2 t]

theorem pt2_2 (t : Fin cfg2.N) (h : Fin 2) (l : Fin 128) : out2_2 (iblk2 V c 0 t) (ix4 0 0 h l) = lanes2 (V c main_arg2) (ix4 (grid2.coords t 0) (grid2.coords t 1) h l) := by
  refine (out2_2_apply _ h l).trans ?_
  exact congrArg (fun B => pw (qexp B)) (blk2_eq V c t h)

theorem cov2_2 : (cfg2.win 2).Covers := by
  refine (cfg2.win 2).covers_of_index_surj rfl (by decide) fun β => ?_
  obtain ⟨t, ht⟩ := grid2.coords_surjective (fun a => match a with | 0 => β 0 | 1 => β 1)
  refine ⟨t, fun a => (congrFun (idx2_2 t) a).trans ?_⟩
  rw [ht]
  match a with | 0 => rfl | 1 => rfl | 2 => (have := (β 2).isLt; exact (Nat.lt_one_iff.mp this).symm) | 3 => (have := (β 3).isLt; exact (Nat.lt_one_iff.mp this).symm)

theorem lanes2_2 : (dat2 V c).arrAt 2 cfg2.N = lanes2 (V c main_arg2) := by
  refine (dat2 V c).arrAt_eq_of_covers 2 _ cov2_2 fun t hf y => ?_
  blk_simp
  rw [after2_2]
  obtain ⟨h, l, rfl⟩ := split_s 2 y
  exact (pt2_2 V c t h l).trans (congrArg (lanes2 (V c main_arg2)) (emb2_2 t h l).symm)

theorem idx2_3 : ∀ t : Fin grid2.N, win2_3.index t = ![(grid2.coords t 0).val, 0, 0, (grid2.coords t 1).val] := by decide +kernel

theorem emb2_3 (t : Fin cfg2.N) (h : Fin 2) (r : Fin 128) (d : Fin 256) : ((cfg2.win 3).blk t).view.emb (ix4 0 h d r) = (ix4 (grid2.coords t 0) h d (row (grid2.coords t 1) r)) := by
  unfold row
  blk_ext [idx2_3 t]

theorem pt2_3 (t : Fin cfg2.N) (h : Fin 2) (r : Fin 128) (d : Fin 256) : out2_3 (iblk2 V c 0 t) (ix4 0 h d r) = codesT2 (V c main_arg2) (ix4 (grid2.coords t 0) h d (row (grid2.coords t 1) r)) := by
  refine (out2_3_apply _ h d r).trans ?_
  exact (congrArg (fun B => qcode B r d) (blk2_eq V c t h)).trans (codesT2_row (V c main_arg2) (grid2.coords t 0) h (grid2.coords t 1) r d).symm

theorem cov2_3 : (cfg2.win 3).Covers := by
  refine (cfg2.win 3).covers_of_index_surj rfl (by decide) fun β => ?_
  obtain ⟨t, ht⟩ := grid2.coords_surjective (fun a => match a with | 0 => β 0 | 1 => β 3)
  refine ⟨t, fun a => (congrFun (idx2_3 t) a).trans ?_⟩
  rw [ht]
  match a with | 0 => rfl | 1 => (have := (β 1).isLt; exact (Nat.lt_one_iff.mp this).symm) | 2 => (have := (β 2).isLt; exact (Nat.lt_one_iff.mp this).symm) | 3 => rfl

theorem codesT2_2 : (dat2 V c).arrAt 3 cfg2.N = codesT2 (V c main_arg2) := by
  refine (dat2 V c).arrAt_eq_of_covers 3 _ cov2_3 fun t hf y => ?_
  blk_simp
  rw [after2_3]
  obtain ⟨h, r, d, rfl⟩ := split_t 2 y
  exact (pt2_3 V c t h r d).trans (congrArg (codesT2 (V c main_arg2)) (emb2_3 t h r d).symm)

end Cert.Arr
end
-- ==== Proof.Sim.lean ====
/-
  One step of the kernel and one step of the reference keep the invariant; a step at a block that is masked as a whole
  leaves the reference's state as it is.
-/
module

public import proofs.«01_k».proof.Proof.Head

@[expose] public section

set_option maxRecDepth 16384

noncomputable section

namespace Cert.Head

open Idealize.ShloMosaic Cert.Expo Cert.Tile

/-- The scale of the scores is a positive real. -/
theorem kC_real {B : Blk} (hB : B.Ok) : ∃ r : ℝ, 0 < r ∧ kC B = r := by
  obtain ⟨a, ha⟩ := hB.qs
  obtain ⟨b, hb⟩ := hB.ks
  refine ⟨2 ^ a * 2 ^ b * (1 / 16), by positivity, ?_⟩
  unfold kC
  rw [ha, hb, ofBits_16th]
  unfold pw
  push_cast; rfl

theorem rS_eq (B : Blk) (k q : Fin 128) : rS B k q = B.S k q * kC B := by
  unfold rS kC; rw [mul_assoc]

theorem rM_eq {B : Blk} (hB : B.Ok) {s : KSt} {t : RSt} (h : s.m = t.m) (q : Fin 128) : rM B t q = kM B s q := by
  obtain ⟨c, hc, e⟩ := kC_real hB
  unfold rM kM kR
  rw [h]
  congr 1
  simp only [rS_eq, e]
  exact (map_sup _ (mul_mono hc) fun k => B.S k q).symm

theorem rS_real {B : Blk} (hB : B.Ok) (k q : Fin 128) : rS B k q = ⊥ ∨ ∃ r : ℝ, rS B k q = r := by
  obtain ⟨c, hc, e⟩ := kC_real hB
  rw [rS_eq, e]
  rcases hB.S k q with h | ⟨r, h⟩
  · left; rw [h]; exact EReal.bot_mul_coe_of_pos hc
  · right; exact ⟨r * c, by rw [h]; push_cast; rfl⟩

/-- The maximum after a step is a real, once some key is not masked. -/
theorem rM_real {B : Blk} (hB : B.Ok) {t : RSt} (q : Fin 128) (hm : t.m q = ⊥ ∨ ∃ μ : ℝ, t.m q = μ)
    (hq : t.m q ≠ ⊥ ∨ ∃ k, B.S k q ≠ ⊥) : ∃ r : ℝ, rM B t q = r := by
  obtain ⟨i, -, hi⟩ := Finset.exists_mem_eq_sup Finset.univ Finset.univ_nonempty fun k => rS B k q
  have e : rM B t q = max (t.m q) (rS B i q) := by
    unfold rM; congr 1
  have hle : ∀ k, rS B k q ≤ rS B i q := fun k => by rw [← hi]; exact Finset.le_sup (f := fun k => rS B k q) (Finset.mem_univ k)
  rcases hm with h1 | ⟨μ, h1⟩ <;> rcases rS_real hB i q with h2 | ⟨r, h2⟩
  · exfalso
    rcases hq with h | ⟨k, h⟩
    · exact h h1
    · have := hle k
      rw [h2, le_bot_iff] at this
      obtain ⟨c, hc, e⟩ := kC_real hB
      rcases hB.S k q with h3 | ⟨r, h3⟩
      · exact h h3
      · rw [rS_eq, h3, e] at this
        exact EReal.coe_ne_bot (r * c) (by push_cast; exact this)
  · exact ⟨r, by rw [e, h1, h2]; simp⟩
  · exact ⟨μ, by rw [e, h1, h2]; simp⟩
  · exact ⟨max μ r, by rw [e, h1, h2]; push_cast; rfl⟩

/-- A weight is a real, at least zero. -/
theorem rP_real {B : Blk} (hB : B.Ok) {t : RSt} (q k : Fin 128) {μ : ℝ} (h : rM B t q = μ) : ∃ p : ℝ, 0 ≤ p ∧ rP B t q k = p := by
  unfold rP; rw [h]
  rcases rS_real hB k q with h2 | ⟨r, h2⟩
  · exact ⟨0, le_rfl, by rw [h2]; rfl⟩
  · exact ⟨Real.exp (r - μ), (Real.exp_pos _).le, by rw [h2]; rfl⟩

/-- The kernel's base-2 exponential is the reference's exponential. -/
theorem exp2_eq {B : Blk} (hB : B.Ok) {t : RSt} {s : KSt} (hm : s.m = t.m) (q k : Fin 128) {μ : ℝ} (h : rM B t q = μ) :
    Ideal.exp2 ((B.S k q - kM B s q * Ideal.div 1 (kC B)) * (kC B * log2e)) = rP B t q k := by
  obtain ⟨c, hc, e⟩ := kC_real hB
  have hl : (0 : ℝ) < Real.log 2 := Real.log_pos one_lt_two
  unfold rP
  rw [rS_eq, h, ← rM_eq hB hm, h, e]
  have hd : Ideal.div 1 (c : EReal) = ((c⁻¹ : ℝ) : EReal) := by
    unfold Ideal.div
    rw [if_neg (by exact_mod_cast hc.ne'), one_mul, EReal.coe_inv]
  have hk : (c : EReal) * log2e = ((c * (Real.log 2)⁻¹ : ℝ) : EReal) := by unfold log2e; push_cast; rfl
  have hp : 0 < c * (Real.log 2)⁻¹ := by positivity
  rw [hd, hk]
  rcases hB.S k q with h2 | ⟨r, h2⟩
  · rw [h2, EReal.bot_mul_coe_of_pos hc]
    have : (⊥ : EReal) - (μ : EReal) * ((c⁻¹ : ℝ) : EReal) = ⊥ := by rw [sub_eq_add_neg]; exact EReal.bot_add _
    rw [this, EReal.bot_mul_coe_of_pos hp]
    have : (⊥ : EReal) - (μ : EReal) = ⊥ := by rw [sub_eq_add_neg]; exact EReal.bot_add _
    rw [this]; rfl
  · rw [h2]
    have h3 : ((r : EReal) - (μ : EReal) * ((c⁻¹ : ℝ) : EReal)) * ((c * (Real.log 2)⁻¹ : ℝ) : EReal) = (((r - μ * c⁻¹) * (c * (Real.log 2)⁻¹) : ℝ) : EReal) := by
      push_cast; rfl
    have h4 : (r : EReal) * (c : EReal) - (μ : EReal) = ((r * c - μ : ℝ) : EReal) := by push_cast; rfl
    rw [h3, h4, exp2_coe, exp_coe]
    congr 1
    show (2 : ℝ) ^ ((r - μ * c⁻¹) * (c * (Real.log 2)⁻¹)) = _
    rw [Real.rpow_def_of_pos two_pos]
    congr 1
    field_simp

/-- The largest weight, over 448. -/
theorem kT_eq {B : Blk} (hB : B.Ok) {t : RSt} {s : KSt} (hm : s.m = t.m) (hμ : ∀ q, ∃ μ : ℝ, rM B t q = μ) : kT B s = rT B t := by
  obtain ⟨c, hc, e⟩ := kC_real hB
  unfold kT rT
  congr 1
  show Ideal.exp (Finset.univ.sup fun q => kR B q - kM B s q) = _
  rw [map_sup _ exp_mono]
  refine Finset.sup_congr rfl fun q _ => ?_
  obtain ⟨μ, h⟩ := hμ q
  unfold rP kR
  rw [h, ← rM_eq hB hm, h]
  simp only [rS_eq, e]
  have h1 : (Finset.univ.fold max ⊥ fun k => B.S k q) * (c : EReal) = _ := map_sup _ (mul_mono hc) fun k => B.S k q
  rw [h1, map_sup _ (sub_mono μ), map_sup _ exp_mono]

theorem kP_eq {B : Blk} (hB : B.Ok) {t : RSt} {s : KSt} (hm : s.m = t.m) (hμ : ∀ q, ∃ μ : ℝ, rM B t q = μ) (k q : Fin 128) :
    kP B s k q = rP B t q k * pw (-sexp (rT B t)) := by
  unfold kP
  rw [exp2_eq hB hm q k (hμ q).choose_spec, kT_eq hB hm hμ]

/-- One step keeps the invariant. -/
theorem inv_step {B : Blk} (hB : B.Ok) {s : KSt} {t : RSt} (h : Inv s t) (hq : ∀ q, t.m q ≠ ⊥ ∨ ∃ k, B.S k q ≠ ⊥) :
    Inv (kstep B s) (rstep B t) := by
  have hμ : ∀ q, ∃ μ : ℝ, rM B t q = μ := fun q => rM_real hB q (by
    rcases h.ml q with h1 | ⟨μ, l, _, h1, _⟩
    · left; rw [← h.m]; exact h1.1
    · right; exact ⟨μ, by rw [← h.m]; exact h1⟩) (hq q)
  have hT := kT_eq hB h.m hμ
  have hP := kP_eq hB h.m hμ
  have hMeq := fun q => rM_eq hB h.m q
  have hAl : ∀ q, kAl B s q = rAl B t q := fun q => by unfold kAl rAl; rw [hMeq, h.m]
  have hp : ∀ q k, ∃ p : ℝ, 0 ≤ p ∧ rP B t q k = p := fun q k => rP_real hB q k (hμ q).choose_spec
  choose p hp0 hp using hp
  choose μ hμ' using hμ
  obtain ⟨ev, hv⟩ := hB.vs
  obtain ⟨u, hu0, hu⟩ := pw_coe (sexp (rT B t))
  have hu' : pw (-sexp (rT B t)) = ((u⁻¹ : ℝ) : EReal) := by
    have : u = 2 ^ sexp (rT B t) := by have := hu; unfold pw at this; exact_mod_cast this.symm
    unfold pw; rw [zpow_neg, this]
  obtain ⟨w, hw0, hw⟩ := pw_coe ev
  have hal : ∀ q, ∃ α : ℝ, rAl B t q = α ∧ 0 ≤ α ∧ ((∃ x : ℝ, t.m q = x) → 0 < α) := fun q => by
    unfold rAl
    rw [hμ']
    rcases h.ml q with h1 | ⟨x, l, _, h1, _⟩
    · rw [← h.m, h1.1]
      refine ⟨0, ?_, le_rfl, fun ⟨x, hx⟩ => absurd hx (EReal.coe_ne_bot x).symm⟩
      rw [sub_eq_add_neg, EReal.bot_add]; rfl
    · rw [← h.m, h1]
      exact ⟨Real.exp (x - μ q), rfl, (Real.exp_pos _).le, fun _ => Real.exp_pos _⟩
  choose α hα hα0 hα1 using hal
  have hL : ∀ q, kL B s q = rL B t q := fun q => by
    unfold kL rL
    rw [hAl, h.l, hT, hu]
    congr 1
    simp only [hP, hp, hu']
    rw [coe_sum]
    have : (∑ k, (p q k : EReal) * ((u⁻¹ : ℝ) : EReal)) = ((∑ k, p q k * u⁻¹ : ℝ) : EReal) := by
      rw [← coe_sum]; simp only [EReal.coe_mul]
    rw [this, ← EReal.coe_mul]
    congr 1
    rw [← Finset.sum_mul]
    field_simp
  have hC : kCn B s = ((u * w : ℝ) : EReal) := by
    unfold kCn; rw [hT, hu, hv, hw]; push_cast; rfl
  refine ⟨funext fun q => (hMeq q).symm, funext hL, fun q => ⟨u * w, by positivity, hC⟩, ?_, ?_, ?_⟩
  · intro d q
    choose x hx using fun k => hB.V k d
    choose y hy using fun k => clip_coe (p q k * u⁻¹)
    obtain ⟨a, ha⟩ := h.a d q
    obtain ⟨c, hc0, hc⟩ := h.c q
    refine ⟨a * (α q * (c * (u * w)⁻¹)) + ∑ k, x k * y k, ?_⟩
    show kA B s d q = _
    unfold kA
    rw [hC, hAl, hα, ha, hc]
    have hd : Ideal.div 1 ((u * w : ℝ) : EReal) = (((u * w)⁻¹ : ℝ) : EReal) := by
      unfold Ideal.div
      rw [if_neg (by exact_mod_cast (mul_pos hu0 hw0).ne'), one_mul, EReal.coe_inv]
    rw [hd]
    have : ∀ k, B.V k d * clip (kP B s k q) = ((x k * y k : ℝ) : EReal) := fun k => by
      rw [hP, hp, hu', hx, ← EReal.coe_mul, hy]; push_cast; rfl
    simp only [this, coe_sum]
    push_cast; rfl
  · intro q d
    choose x hx using fun k => hB.V k d
    choose y hy using fun k => clip_coe (p q k * u⁻¹)
    obtain ⟨a, ha⟩ := h.a d q
    obtain ⟨c, hc0, hc⟩ := h.c q
    show rA B t q d = kA B s d q * kCn B s
    unfold kA rA
    rw [hC, hAl, hα, ha, hc, h.acc, ha, hc, hu, hv, hw]
    have hd : Ideal.div 1 ((u * w : ℝ) : EReal) = (((u * w)⁻¹ : ℝ) : EReal) := by
      unfold Ideal.div
      rw [if_neg (by exact_mod_cast (mul_pos hu0 hw0).ne'), one_mul, EReal.coe_inv]
    rw [hd]
    have h1 : ∀ k, B.V k d * clip (kP B s k q) = ((x k * y k : ℝ) : EReal) := fun k => by
      rw [hP, hp, hu', hx, ← EReal.coe_mul, hy]; push_cast; rfl
    have h2 : ∀ k, clip (rP B t q k * pw (-sexp (rT B t))) * B.V k d = ((x k * y k : ℝ) : EReal) := fun k => by
      rw [hp, hu', hx, ← EReal.coe_mul, hy, mul_comm]; push_cast; rfl
    simp only [h1, h2, coe_sum]
    simp only [← EReal.coe_mul, ← EReal.coe_add]
    congr 1
    field_simp
  · intro q
    right
    have hl : ∃ l : ℝ, 0 ≤ l ∧ s.l q = l ∧ ((∃ x : ℝ, t.m q = x) → 0 < l) := by
      rcases h.ml q with ⟨h1, h2⟩ | ⟨x, l, hl, h1, h2⟩
      · exact ⟨0, le_rfl, h2, fun ⟨x, hx⟩ => by rw [← h.m, h1] at hx; exact absurd hx (EReal.coe_ne_bot x).symm⟩
      · exact ⟨l, hl.le, h2, fun _ => hl⟩
    obtain ⟨l, hl0, hl, hl1⟩ := hl
    refine ⟨μ q, α q * l + ∑ k, p q k, ?_, by rw [← hμ' q]; exact (hMeq q).symm, ?_⟩
    · have hs : 0 ≤ ∑ k, p q k := Finset.sum_nonneg fun k _ => hp0 q k
      rcases h.ml q with ⟨h1, _⟩ | ⟨x, l', _, h1, _⟩
      · have h0 : 0 ≤ α q * l := mul_nonneg (hα0 q) hl0
        suffices 0 < ∑ k, p q k by linarith
        obtain ⟨i, -, hi⟩ := Finset.exists_mem_eq_sup Finset.univ Finset.univ_nonempty fun k => rS B k q
        have e : rM B t q = rS B i q := by
          have : rM B t q = max (t.m q) (rS B i q) := by unfold rM; congr 1
          rw [this, ← h.m, h1]; simp
        have hp1 : p q i = 1 := by
          have h3 := hp q i
          unfold rP at h3
          rw [← e, hμ'] at h3
          have h4 : (μ q : EReal) - (μ q : EReal) = ((μ q - μ q : ℝ) : EReal) := by push_cast; rfl
          rw [h4, exp_coe, sub_self, Real.exp_zero] at h3
          exact_mod_cast h3.symm
        calc 0 < p q i := by rw [hp1]; exact one_pos
          _ ≤ _ := Finset.single_le_sum (f := p q) (fun k _ => hp0 q k) (Finset.mem_univ i)
      · have hx : ∃ x : ℝ, t.m q = x := ⟨x, by rw [← h.m]; exact h1⟩
        have := mul_pos (hα1 q hx) (hl1 hx)
        linarith
    · show kL B s q = _
      rw [hL]; unfold rL
      rw [hα, ← h.l, hl]; simp only [hp, coe_sum]; push_cast; rfl

/-- The results agree: the accumulator times the unit over the sum. -/
theorem out_eq {s : KSt} {t : RSt} (h : Inv s t) (q : Fin 128) (d : Fin 256) (hm : s.m q ≠ ⊥) :
    s.a d q * Ideal.div (s.c q) (s.l q) = Ideal.div (t.a q d) (t.l q) := by
  rcases h.ml q with h1 | ⟨μ, l, hl, _, h1⟩
  · exact absurd h1.1 hm
  · rw [h.acc, ← h.l, h1]
    unfold Ideal.div
    rw [if_neg (by exact_mod_cast hl.ne'), if_neg (by exact_mod_cast hl.ne'), mul_assoc]

/-- A block masked as a whole leaves the reference's state. -/
theorem rstep_masked {B : Blk} (hB : B.Ok) (hS : ∀ k q, B.S k q = ⊥) {t : RSt} (hm : ∀ q, ∃ μ : ℝ, t.m q = μ) : rstep B t = t := by
  obtain ⟨c, hc, e⟩ := kC_real hB
  have h0 : ∀ k q, rS B k q = ⊥ := fun k q => by rw [rS_eq, hS, e]; exact EReal.bot_mul_coe_of_pos hc
  have hM : ∀ q, rM B t q = t.m q := fun q => by
    unfold rM
    simp only [h0]
    have : (Finset.univ.fold max ⊥ fun _ : Fin 128 => (⊥ : EReal)) = ⊥ := Finset.sup_bot _
    rw [this]; simp
  have hA : ∀ q, rAl B t q = 1 := fun q => by
    unfold rAl; rw [hM]
    obtain ⟨μ, h⟩ := hm q
    rw [h]
    have h4 : (μ : EReal) - (μ : EReal) = ((μ - μ : ℝ) : EReal) := by push_cast; rfl
    rw [h4, exp_coe, sub_self, Real.exp_zero]; rfl
  have hP : ∀ q k, rP B t q k = 0 := fun q k => by
    unfold rP; rw [h0, hM]
    obtain ⟨μ, h⟩ := hm q
    rw [h, sub_eq_add_neg, EReal.bot_add]; rfl
  have hcl : clip 0 = 0 := by
    unfold clip; rw [ofBits_448, ofBits_n448]
    rw [max_eq_right (by exact_mod_cast (by norm_num : (-448 : ℝ) ≤ 0)), min_eq_right (by exact_mod_cast (by norm_num : (0 : ℝ) ≤ 448))]
  obtain ⟨m, l, a⟩ := t
  unfold rstep
  congr 1
  · exact funext hM
  · funext q; unfold rL; rw [hA]; simp only [hP]; simp
  · funext q d; unfold rA; rw [hA]; simp only [hP, zero_mul, hcl]; simp

section
variable (D : Fin 32 → Blk)
/-- The kernel's state after `n` blocks. -/
def kst : ℕ → KSt
  | 0 => kinit
  | n + 1 => if h : n < 32 then kstep (D ⟨n, h⟩) (kst n) else kst n
/-- The reference's state after `n` blocks. -/
def rst : ℕ → RSt
  | 0 => rinit
  | n + 1 => if h : n < 32 then rstep (D ⟨n, h⟩) (rst n) else rst n

theorem kst_succ (j : Fin 32) : kst D (j.val + 1) = kstep (D j) (kst D j.val) := dif_pos j.isLt
theorem rst_succ (j : Fin 32) : rst D (j.val + 1) = rstep (D j) (rst D j.val) := dif_pos j.isLt

/-- A query block's data: block 0 has a key that no query masks, and blocks after the diagonal are masked. -/
structure Causal (i : Fin 32) : Prop where
  ok : ∀ j, (D j).Ok
  first : ∀ q, (D 0).S 0 q ≠ ⊥
  last : ∀ j, i < j → ∀ k q, (D j).S k q = ⊥

variable {D} {i : Fin 32}

/-- The invariant after every number of blocks, with real maxima from the first block on. -/
theorem inv_st (h : Causal D i) : ∀ n ≤ 32, Inv (kst D n) (rst D n) ∧ (0 < n → ∀ q, (rst D n).m q ≠ ⊥) := by
  intro n
  induction n with
  | zero => exact fun _ => ⟨inv_init, fun h => absurd h (lt_irrefl _)⟩
  | succ n ih =>
    intro hn
    obtain ⟨h1, h2⟩ := ih (by omega)
    have e1 := kst_succ D ⟨n, by omega⟩
    have e2 := rst_succ D ⟨n, by omega⟩
    dsimp only at e1 e2
    have hq : ∀ q, (rst D n).m q ≠ ⊥ ∨ ∃ k, (D ⟨n, by omega⟩).S k q ≠ ⊥ := fun q => by
      rcases Nat.eq_zero_or_pos n with h0 | h0
      · subst h0; exact .inr ⟨0, h.first q⟩
      · exact .inl (h2 h0 q)
    have h3 := inv_step (h.ok ⟨n, by omega⟩) h1 hq
    rw [← e1, ← e2] at h3
    refine ⟨h3, fun _ q => ?_⟩
    rw [e2]
    obtain ⟨r, hr⟩ := rM_real (h.ok ⟨n, by omega⟩) (t := rst D n) q (by
      rcases h1.ml q with h4 | ⟨μ, l, _, h4, _⟩
      · left; rw [← h1.m]; exact h4.1
      · right; exact ⟨μ, by rw [← h1.m]; exact h4⟩) (hq q)
    show rM _ _ q ≠ ⊥
    rw [hr]; exact EReal.coe_ne_bot r

/-- Past the diagonal the reference's state stays. -/
theorem rst_tail (h : Causal D i) : ∀ n, i.val + 1 ≤ n → n ≤ 32 → rst D n = rst D (i.val + 1) := by
  intro n hn
  induction n, hn using Nat.le_induction with
  | base => exact fun _ => rfl
  | succ n hn ih =>
    intro h32
    have e2 := rst_succ D ⟨n, by omega⟩
    dsimp only at e2
    obtain ⟨h1, h2⟩ := inv_st h n (by omega)
    rw [e2, rstep_masked (h.ok _) (h.last _ (by show i.val < n; omega)), ih (by omega)]
    intro q
    rcases h1.ml q with h4 | ⟨μ, l, _, h4, _⟩
    · exact absurd (by rw [← h1.m]; exact h4.1) (h2 (by omega) q)
    · exact ⟨μ, by rw [← h1.m]; exact h4⟩

/-- The kernel stops at the diagonal, the reference goes through all blocks; the results agree. -/
theorem attend_eq (h : Causal D i) (q : Fin 128) (d : Fin 256) :
    (kst D (i.val + 1)).a d q * Ideal.div ((kst D (i.val + 1)).c q) ((kst D (i.val + 1)).l q) = Ideal.div ((rst D 32).a q d) ((rst D 32).l q) := by
  obtain ⟨h1, h2⟩ := inv_st h (i.val + 1) (by omega)
  rw [rst_tail h 32 (by omega) le_rfl]
  exact out_eq h1 q d (by rw [h1.m]; exact h2 (by omega) q)
end

end Cert.Head
-- ==== Proof.Acc.lean ====
/-
  The state of the attention kernel's loop over the blocks of keys, and what a grid point stores, as the per-head
  recursion of `Proof/Head.lean`.
-/
module

public import proofs.«01_k».proof.Proof.Sim
public import Idealize.ShloMosaic.Lib.Pipeline.ReadBack
public import Idealize.ShloMosaic.Lib.LoopRemainder
public import Idealize.ShloMosaic.Lib.ValueIdx

@[expose] public section

set_option maxRecDepth 16384

noncomputable section

namespace Cert.Tile

open Idealize.ShloMosaic Idealize.ShloMosaic.TcCoe Cert.KernelIdeal Cert.KernelIdeal.Gen Cert.Head Cert.Expo
open Idealize.SL Idealize.SL.RA Idealize.SL.BI Idealize.SL.Sem

/-- The columns of different heads do not meet. -/
theorem disj_acc : ∀ h h' : Fin 8, h ≠ h' → LoadRect.disj (accR h) (accR h').toLoadRect = true := by decide

section
variable (v : View sig .tc .vmem S256x1024 .f32)

theorem readCov_upd_ne (g : FVec Ideal S256x128 .f32 → Fin 8 → FVec Ideal S256x128 .f32) (h h' : Fin 8) (L : List (View.Piece (Elt Ideal) S256x1024 .f32))
    (hh : h ≠ h') : v.readCov (upd v g h L) (accR h').toLoadRect = v.readCov L (accR h').toLoadRect :=
  View.readCov_skip v (accR h) _ L (accR h').toLoadRect (disj_acc h h' hh)

theorem readCov_upd (g : FVec Ideal S256x128 .f32 → Fin 8 → FVec Ideal S256x128 .f32) (h : Fin 8) (L : List (View.Piece (Elt Ideal) S256x1024 .f32)) :
    v.readCov (upd v g h L) (accR h).toLoadRect = g (v.readCov L (accR h).toLoadRect) h :=
  View.readCov_cons_toLoadRect v (accR h) _ L

/-- After the eight updates the columns of a head are its update of what they were. -/
theorem readCov_upd8 (g : FVec Ideal S256x128 .f32 → Fin 8 → FVec Ideal S256x128 .f32) (L : List (View.Piece (Elt Ideal) S256x1024 .f32)) (h : Fin 8) :
    v.readCov (upd8 v g L) (accR h).toLoadRect = g (v.readCov L (accR h).toLoadRect) h := by
  unfold upd8
  match h with
  | 0 => simp (disch := decide) only [readCov_upd_ne, readCov_upd]; rfl
  | 1 => simp (disch := decide) only [readCov_upd_ne, readCov_upd]; rfl
  | 2 => simp (disch := decide) only [readCov_upd_ne, readCov_upd]; rfl
  | 3 => simp (disch := decide) only [readCov_upd_ne, readCov_upd]; rfl
  | 4 => simp (disch := decide) only [readCov_upd_ne, readCov_upd]; rfl
  | 5 => simp (disch := decide) only [readCov_upd_ne, readCov_upd]; rfl
  | 6 => simp (disch := decide) only [readCov_upd_ne, readCov_upd]; rfl
  | 7 => simp (disch := decide) only [readCov_upd_ne, readCov_upd]; rfl

theorem readCov_pieces (a : Fin 8 → FVec Ideal S256x128 .f32) (L : List (View.Piece (Elt Ideal) S256x1024 .f32)) (h : Fin 8) :
    v.readCov (pieces a ++ L) (accR h).toLoadRect = a h := by
  have := readCov_upd8 v (fun _ h => a h) L h
  exact this

theorem readCov_clear (h : Fin 8) (y : S256x128.Idx) : v.readCov (clear (F := Ideal)) (accR h).toLoadRect y = 0 := by
  unfold clear
  rw [View.readCov_fill (h := by decide)]
  exact (ofBits_zero : Ideal.ofBits .f32 0x00000000#32 = 0)
end

section
variable {st : Fin 8 → FVec Ideal S128x128 .f32} {qs : FVec Ideal S8x128 .f32} {ks vs : Ideal .f32}
  {vt : FVec Ideal S256x128 .fp8e4m3} {m l c : FVec Ideal S8x128 .f32}

/-- What a tile reads is the block `B h`, for every head. -/
structure Reads (st : Fin 8 → FVec Ideal S128x128 .f32) (qs : FVec Ideal S8x128 .f32) (ks vs : Ideal .f32)
  (vt : FVec Ideal S256x128 .fp8e4m3) (B : Fin 8 → Blk) : Prop where
  S : ∀ h k q, st h (ix2 k q) = (B h).S k q
  qs : ∀ h q, qs (ix2 h q) = (B h).qs
  ks : ∀ h, ks = (B h).ks
  vs : ∀ h, vs = (B h).vs
  V : ∀ h d k, vt (ix2 d k) = (B h).V k d

/-- The carried values are the states `s h`, for every head. -/
structure Carries (m l c : FVec Ideal S8x128 .f32) (s : Fin 8 → KSt) : Prop where
  m : ∀ h q, m (ix2 h q) = (s h).m q
  l : ∀ h q, l (ix2 h q) = (s h).l q
  c : ∀ h q, c (ix2 h q) = (s h).c q

variable {B : Fin 8 → Blk} {s : Fin 8 → KSt}

theorem oR_tie (hB : Reads st qs ks vs vt B) (h : Fin 8) (q : Fin 128) : oR heads st qs ks (ix2 h q) = kR (B h) q := by
  rw [oR_apply, hB.qs, hB.ks h]; simp only [hB.S]; rfl
theorem oM_tie (hB : Reads st qs ks vs vt B) (hs : Carries m l c s) (h : Fin 8) (q : Fin 128) : oM heads st qs ks m (ix2 h q) = kM (B h) (s h) q := by
  rw [oM_apply, oR_tie hB, hs.m]; rfl
theorem oAlpha_tie (hB : Reads st qs ks vs vt B) (hs : Carries m l c s) (h : Fin 8) (q : Fin 128) : oAlpha heads st qs ks m (ix2 h q) = kAl (B h) (s h) q := by
  rw [oAlpha_apply, oM_tie hB hs, hs.m]; rfl
theorem oT_tie (hB : Reads st qs ks vs vt B) (hs : Carries m l c s) (h : Fin 8) : oT heads st qs ks m (ix2 h 0) = kT (B h) (s h) := by
  rw [oT_apply]; simp only [oM_tie hB hs, oR_tie hB]; rfl
theorem oP_tie (hB : Reads st qs ks vs vt B) (hs : Carries m l c s) (h : Fin 8) (k q : Fin 128) : oP heads st qs ks m h (ix2 k q) = kP (B h) (s h) k q := by
  rw [oP_apply, oT_tie hB hs, oM_tie hB hs, tC_apply, hB.qs, hB.ks h, hB.S]; rfl
theorem oL_tie (hB : Reads st qs ks vs vt B) (hs : Carries m l c s) (h : Fin 8) (q : Fin 128) : oL heads st qs ks m l (ix2 h q) = kL (B h) (s h) q := by
  rw [oL_apply, oT_tie hB hs, oAlpha_tie hB hs, hs.l]; simp only [oP_tie hB hs]; rfl
theorem oC_tie (hB : Reads st qs ks vs vt B) (hs : Carries m l c s) (h : Fin 8) (q : Fin 128) : oC heads st qs ks vs m (ix2 h q) = kCn (B h) (s h) := by
  rw [oC_apply, oT_tie hB hs, hB.vs h]; rfl
theorem oAcc_tie (hB : Reads st qs ks vs vt B) (hs : Carries m l c s) (h : Fin 8) (a : FVec Ideal S256x128 .f32)
    (ha : ∀ d q, a (ix2 d q) = (s h).a d q) (d : Fin 256) (q : Fin 128) : oAcc heads st qs ks vs vt m c a h (ix2 d q) = kA (B h) (s h) d q := by
  rw [oAcc_apply, oBeta_apply, oAlpha_tie hB hs, oC_tie hB hs, ha, hs.c]; simp only [oP_tie hB hs, hB.V h]; rfl

/-- The carried values after the tile. -/
theorem carries_step (hB : Reads st qs ks vs vt B) (hs : Carries m l c s) :
    Carries (oM heads st qs ks m) (oL heads st qs ks m l) (oC heads st qs ks vs m) fun h => kstep (B h) (s h) :=
  ⟨oM_tie hB hs, oL_tie hB hs, oC_tie hB hs⟩
end

section
variable (c : Dev nD) (i : grid3.Coords) (arg3 : Memref sig .tc .smem S8x2x32 .f32) (harg3 : arg3.IsWhole) (arg4 : Memref sig .tc .smem S8x2x32 .f32) (harg4 : arg4.IsWhole) (arg5 : Memref sig .tc .vmem S1x8x128x256 .fp8e4m3) (harg5 : arg5.IsWhole) (arg6 : Memref sig .tc .vmem S1x1x8x128 .f32) (harg6 : arg6.IsWhole) (arg7 : Memref sig .tc .vmem S1x1x4096x256 .fp8e4m3) (harg7 : arg7.IsWhole) (arg8 : Memref sig .tc .vmem S1x1x256x4096 .fp8e4m3) (harg8 : arg8.IsWhole) (arg9 : Memref sig .tc .vmem S1x128x2048 .bf16) (harg9 : arg9.IsWhole) (arg10 : Memref sig .tc .vmem S256x1024 .f32) (harg10 : arg10.IsWhole) (x0 : Vec Ideal S8x2x32 .f32) (x1 : Vec Ideal S8x2x32 .f32) (x2 : Vec Ideal S1x8x128x256 .fp8e4m3) (x3 : Vec Ideal S1x1x8x128 .f32) (x4 : Vec Ideal S1x1x4096x256 .fp8e4m3) (x5 : Vec Ideal S1x1x256x4096 .fp8e4m3)

/-- The data of grid point `i`: what each trip reads is block `k` of head `h`, and the masked tile is block `i 2`. -/
structure Point (D : Fin 8 → Fin 32 → Blk) : Prop where
  trip : ∀ (k : Fin (k3_t1_loop i).trips) (j : Fin 32), j.val = k.val →
    Reads (cut (scores (qD arg5 harg5 x2) (keysAt i arg7 (harg7.unread x4) k))) (qsD arg6 harg6 x3) (scaleAt i arg3 (harg3.unread x0) k)
      (scaleAt i arg4 (harg4.unread x1) k) (vals (valsAt i arg8 (harg8.unread x5) k)) fun h => D h j
  diag : ∀ j : Fin 32, j.val = (i 2).val →
    Reads (stD i arg5 harg5 arg7 harg7 x2 x4) (qsD arg6 harg6 x3) (scaleD i arg3 harg3 x0) (scaleD i arg4 harg4 x1) (vals (valsD i arg8 harg8 x5)) fun h => D h j

theorem carries_init : Carries (k3_pay141 (F := Ideal)) k3_pay142 k3_pay143 fun _ => kinit where
  m h q := by pointwise [k3_pay141]; rw [ofBits_ninf]; rfl
  l h q := by pointwise [k3_pay142]; rfl
  c h q := by pointwise [k3_pay143]; rfl

/-- The loop's state before trip `n`. -/
theorem loop1_tie (D : Fin 8 → Fin 32 → Blk) (hD : Point i arg3 harg3 arg4 harg4 arg5 harg5 arg6 harg6 arg7 harg7 arg8 harg8 x0 x1 x2 x3 x4 x5 D) : ∀ n ≤ (k3_t1_loop i).trips,
    Carries (loop1 c i arg3 harg3 arg4 harg4 arg5 harg5 arg6 harg6 arg7 harg7 arg8 harg8 arg9 harg9 arg10 harg10 x0 x1 x2 x3 x4 x5 n).1.1 (loop1 c i arg3 harg3 arg4 harg4 arg5 harg5 arg6 harg6 arg7 harg7 arg8 harg8 arg9 harg9 arg10 harg10 x0 x1 x2 x3 x4 x5 n).1.2.1 (loop1 c i arg3 harg3 arg4 harg4 arg5 harg5 arg6 harg6 arg7 harg7 arg8 harg8 arg9 harg9 arg10 harg10 x0 x1 x2 x3 x4 x5 n).1.2.2 (fun h => kst (D h) n) ∧
    ∀ h d q, arg10.view.readCov ((loop1 c i arg3 harg3 arg4 harg4 arg5 harg5 arg6 harg6 arg7 harg7 arg8 harg8 arg9 harg9 arg10 harg10 x0 x1 x2 x3 x4 x5 n).2 ++ clear) (accR h).toLoadRect (ix2 d q) = (kst (D h) n).a d q := by
  have htr := (k3_t1_abs i).2.1
  intro n
  induction n with
  | zero =>
    intro _
    exact ⟨carries_init, fun h d q => readCov_clear _ h _⟩
  | succ n ih =>
    intro hn
    obtain ⟨h1, h2⟩ := ih (by omega)
    have e := st_k3_t1_succ (F := Ideal) Variants.none c none i arg3 harg3 arg4 harg4 arg5 harg5 arg6 harg6 arg7 harg7 arg8 harg8 arg9 harg9 arg10 harg10 (BitVec.ofNat 32 (i 0).val) (BitVec.ofNat 32 (i 1).val) (View.readAt (Elt Ideal) arg5.view (Rect.unit (s := S1x8x128x256) ![0, 0, 0, 0] S1x8x128x256.size inb_S1x8x128x256_S1x8x128x256_0_0_0_0).toLoadRect (harg5.unread x2)) (View.readAt (Elt Ideal) arg6.view (Rect.unit (s := S1x1x8x128) ![0, 0, 0, 0] S1x1x8x128.size inb_S1x1x8x128_S1x1x8x128_0_0_0_0).toLoadRect (harg6.unread x3)) heads (harg3.unread x0) (harg4.unread x1) (harg7.unread x4) (harg8.unread x5) (arg10.view.writes (Elt Ideal) arg10.view.junk clear) (k3_pay141, k3_pay142, k3_pay143) ⟨n, by omega⟩
    rw [tripR_eq, tripL_eq] at e
    have e' : loop1 c i arg3 harg3 arg4 harg4 arg5 harg5 arg6 harg6 arg7 harg7 arg8 harg8 arg9 harg9 arg10 harg10 x0 x1 x2 x3 x4 x5 (n + 1) = _ := e
    have hr := hD.trip ⟨n, by omega⟩ ⟨n, by omega⟩ rfl
    have hk : ∀ h, kst (D h) (n + 1) = kstep (D h ⟨n, by omega⟩) (kst (D h) n) := fun h => kst_succ (D h) ⟨n, by omega⟩
    rw [e']
    simp only [hk]
    refine ⟨carries_step hr h1, fun h d q => ?_⟩
    rw [List.append_assoc, readCov_pieces]
    refine oAcc_tie hr h1 h _ (fun d q => ?_) d q
    rw [← h2 h d q, ← View.writes_append, View.readAt_writes_junk_eq_canon, View.readCov_eq_canon']
    rfl

/-- The second loop makes no trip. -/
theorem loop2_eq : loop2 c i arg3 harg3 arg4 harg4 arg5 harg5 arg6 harg6 arg7 harg7 arg8 harg8 arg9 harg9 arg10 harg10 x0 x1 x2 x3 x4 x5 = ((loop1 c i arg3 harg3 arg4 harg4 arg5 harg5 arg6 harg6 arg7 harg7 arg8 harg8 arg9 harg9 arg10 harg10 x0 x1 x2 x3 x4 x5 (k3_t1_loop i).trips).1, []) := by
  have h0 : Scf.trips (k3_t2_loop i).lb (k3_t2_loop i).ub (k3_t2_loop i).st = 0 := Nat.le_zero.mp (k3_t2_abs i).2.1
  unfold loop2
  rw [h0]
  rfl

end

end Cert.Tile
-- ==== Proof.Pt.lean ====
/-
  What a grid point of the attention kernel stores into its output block: per head, the result of the recursion of
  `Proof/Head.lean`.
-/
module

public import proofs.«01_k».proof.Proof.Acc
public import Idealize.ShloMosaic.Lib.Pipeline.ReadBack
public import Idealize.ShloMosaic.Lib.LoopRemainder
public import Idealize.ShloMosaic.Lib.ValueIdx

@[expose] public section

set_option maxRecDepth 16384

noncomputable section

namespace Cert.Tile

open Idealize.ShloMosaic Idealize.ShloMosaic.TcCoe Cert.KernelIdeal Cert.KernelIdeal.Gen Cert.Head Cert.Expo
open Idealize.SL Idealize.SL.RA Idealize.SL.BI Idealize.SL.Sem

/-- The result of a head from what it is made of. -/
theorem yHead_of (l c : FVec Ideal S8x128 .f32) (a : FVec Ideal S256x128 .f32) (h : Fin 8) (q : Fin 128) (d : Fin 256) {L C A : EReal}
    (hl : l (ix2 h q) = L) (hc : c (ix2 h q) = C) (ha : a (ix2 d q) = A) : yHead l c a h (ix3 0 q d) = A * Ideal.div C L := by
  rw [yHead_apply, hl, hc, ha]

section
variable (c : Dev nD) (i : grid3.Coords) (arg3 : Memref sig .tc .smem S8x2x32 .f32) (harg3 : arg3.IsWhole) (arg4 : Memref sig .tc .smem S8x2x32 .f32) (harg4 : arg4.IsWhole) (arg5 : Memref sig .tc .vmem S1x8x128x256 .fp8e4m3) (harg5 : arg5.IsWhole) (arg6 : Memref sig .tc .vmem S1x1x8x128 .f32) (harg6 : arg6.IsWhole) (arg7 : Memref sig .tc .vmem S1x1x4096x256 .fp8e4m3) (harg7 : arg7.IsWhole) (arg8 : Memref sig .tc .vmem S1x1x256x4096 .fp8e4m3) (harg8 : arg8.IsWhole) (arg9 : Memref sig .tc .vmem S1x128x2048 .bf16) (harg9 : arg9.IsWhole) (arg10 : Memref sig .tc .vmem S256x1024 .f32) (harg10 : arg10.IsWhole) (x0 : Vec Ideal S8x2x32 .f32) (x1 : Vec Ideal S8x2x32 .f32) (x2 : Vec Ideal S1x8x128x256 .fp8e4m3) (x3 : Vec Ideal S1x1x8x128 .f32) (x4 : Vec Ideal S1x1x4096x256 .fp8e4m3) (x5 : Vec Ideal S1x1x256x4096 .fp8e4m3)

/-- The accumulator before the masked tile is the loop's. -/
theorem before_eq : before c i arg3 harg3 arg4 harg4 arg5 harg5 arg6 harg6 arg7 harg7 arg8 harg8 arg9 harg9 arg10 harg10 x0 x1 x2 x3 x4 x5 = (loop1 c i arg3 harg3 arg4 harg4 arg5 harg5 arg6 harg6 arg7 harg7 arg8 harg8 arg9 harg9 arg10 harg10 x0 x1 x2 x3 x4 x5 (k3_t1_loop i).trips).2 ++ clear := by
  unfold before; rw [loop2_eq]; rfl

/-- What a grid point stores: the result of each head. -/
theorem run3_tie (D : Fin 8 → Fin 32 → Blk) (hD : Point i arg3 harg3 arg4 harg4 arg5 harg5 arg6 harg6 arg7 harg7 arg8 harg8 x0 x1 x2 x3 x4 x5 D) (ht : (k3_t1_loop i).trips = (i 2).val) : ∃ a : Fin 8 → FVec Ideal S1x128x256 .bf16,
    (kernelRun3_A (F := Ideal) c i arg3 harg3 arg4 harg4 arg5 harg5 arg6 harg6 arg7 harg7 arg8 harg8 arg9 harg9 arg10 harg10 x0 x1 x2 x3 x4 x5).1 = yPieces a ∧ ∀ h q d, a h (ix3 0 q d) =
      (kst (D h) ((i 2).val + 1)).a d q * Ideal.div ((kst (D h) ((i 2).val + 1)).c q) ((kst (D h) ((i 2).val + 1)).l q) := by
  have h32 : (i 2).val < 32 := (i 2).isLt
  have h12 := loop1_tie c i arg3 harg3 arg4 harg4 arg5 harg5 arg6 harg6 arg7 harg7 arg8 harg8 arg9 harg9 arg10 harg10 x0 x1 x2 x3 x4 x5 D hD (k3_t1_loop i).trips le_rfl
  have e2 := loop2_eq c i arg3 harg3 arg4 harg4 arg5 harg5 arg6 harg6 arg7 harg7 arg8 harg8 arg9 harg9 arg10 harg10 x0 x1 x2 x3 x4 x5
  have e3 := before_eq c i arg3 harg3 arg4 harg4 arg5 harg5 arg6 harg6 arg7 harg7 arg8 harg8 arg9 harg9 arg10 harg10 x0 x1 x2 x3 x4 x5
  have e1 := run3_eq c i arg3 harg3 arg4 harg4 arg5 harg5 arg6 harg6 arg7 harg7 arg8 harg8 arg9 harg9 arg10 harg10 x0 x1 x2 x3 x4 x5
  generalize before c i arg3 harg3 arg4 harg4 arg5 harg5 arg6 harg6 arg7 harg7 arg8 harg8 arg9 harg9 arg10 harg10 x0 x1 x2 x3 x4 x5 = Lb at e1 e3
  generalize loop2 c i arg3 harg3 arg4 harg4 arg5 harg5 arg6 harg6 arg7 harg7 arg8 harg8 arg9 harg9 arg10 harg10 x0 x1 x2 x3 x4 x5 = l2 at e1 e2
  generalize loop1 c i arg3 harg3 arg4 harg4 arg5 harg5 arg6 harg6 arg7 harg7 arg8 harg8 arg9 harg9 arg10 harg10 x0 x1 x2 x3 x4 x5 (k3_t1_loop i).trips = l1 at h12 e2 e3
  subst e2 e3
  rw [ht] at h12
  obtain ⟨h1, h2⟩ := h12
  have hr := hD.diag ⟨(i 2).val, h32⟩ rfl
  have hk : ∀ h, kst (D h) ((i 2).val + 1) = kstep (D h ⟨(i 2).val, h32⟩) (kst (D h) (i 2).val) := fun h => kst_succ (D h) ⟨(i 2).val, h32⟩
  refine ⟨_, e1, fun h q d => ?_⟩
  rw [hk]
  refine yHead_of _ _ _ h q d (oL_tie hr h1 h q) (oC_tie hr h1 h q) ?_
  refine (congrFun (readCov_upd8 arg10.view _ _ h) (ix2 d q)).trans ?_
  exact oAcc_tie hr h1 h _ (fun d q => h2 h d q) d q
end

end Cert.Tile
-- ==== Proof.Data.lean ====
/-
  The data of the attention: for a batch entry, a pair of key heads and a block of queries, the sequence of key blocks,
  each with its masked scores, its scales and its values; and what a grid point of the attention reads.
-/
module

public import proofs.«01_k».proof.Proof.Spec
public import proofs.«01_k».proof.Proof.Pt
public import Idealize.ShloMosaic.Lib.Pointwise
public import Idealize.ShloMosaic.Lib.Pipeline.ValueKit

@[expose] public section

set_option maxRecDepth 16384

noncomputable section

namespace Cert.Data

open Idealize.ShloMosaic Idealize.ShloMosaic.TcCoe Cert.KernelIdeal Cert.KernelIdeal.Gen Cert.Expo Cert.Head Cert.Quant Cert.Spec Cert.Tile

variable (X : Vec Ideal S8x4096x4096 .bf16) (K W : Vec Ideal S8x4096x512 .bf16)

/-- The query head of a key head and its place in the group. -/
def qhead (g : Fin 2) (h : Fin 8) : Fin 16 := ⟨8 * g.val + h.val, by omega⟩

/-- The product of a key's codes and a query's codes. -/
def dotc (b : Fin 8) (g : Fin 2) (h : Fin 8) (i j : Fin 32) (k q : Fin 128) : EReal :=
  ∑ x : Fin 256, qcode (kblk K b g j) k x * qcode (xblk X b (qhead g h) i) q x

/-- Key block `j` against query block `i` of head `h` of group `g`. -/
def D (b : Fin 8) (g : Fin 2) (h : Fin 8) (i j : Fin 32) : Blk where
  S k q := if (Spec.row j k).val ≤ (Spec.row i q).val then dotc X K b g h i j k q else ⊥
  qs := pw (qexp (xblk X b (qhead g h) i))
  ks := pw (qexp (kblk K b g j))
  vs := pw (qexp (kblk W b g j))
  V k d := qcode (kblk W b g j) k d

theorem clip_real (x : EReal) : ∃ r : ℝ, clip x = r := by
  unfold clip
  rw [ofBits_448, ofBits_n448]
  induction x with
  | bot => exact ⟨-448, by rw [max_eq_left bot_le, min_eq_right (by exact_mod_cast (by norm_num : (-448 : ℝ) ≤ 448))]⟩
  | top => exact ⟨448, by rw [max_eq_right le_top, min_eq_left le_top]⟩
  | coe x => exact ⟨min 448 (max (-448) x), by push_cast; rfl⟩

theorem qcode_real (v : Fin 128 → Fin 256 → EReal) (r : Fin 128) (d : Fin 256) : ∃ a : ℝ, qcode v r d = a := clip_real _

theorem dotc_real (b : Fin 8) (g : Fin 2) (h : Fin 8) (i j : Fin 32) (k q : Fin 128) : ∃ a : ℝ, dotc X K b g h i j k q = a := by
  choose f hf using qcode_real (kblk K b g j)
  choose e he using qcode_real (xblk X b (qhead g h) i)
  refine ⟨∑ x, f k x * e q x, ?_⟩
  unfold dotc
  simp only [hf, he]
  push_cast
  rfl

theorem D_ok (b : Fin 8) (g : Fin 2) (h : Fin 8) (i j : Fin 32) : (D X K W b g h i j).Ok where
  qs := ⟨_, rfl⟩
  ks := ⟨_, rfl⟩
  vs := ⟨_, rfl⟩
  V k d := qcode_real _ k d
  S k q := by
    unfold D; dsimp only
    split
    · exact .inr (dotc_real X K b g h i j k q)
    · exact .inl rfl

theorem D_causal (b : Fin 8) (g : Fin 2) (h : Fin 8) (i : Fin 32) : Causal (D X K W b g h i) i where
  ok := D_ok X K W b g h i
  first q := by
    obtain ⟨a, ha⟩ := dotc_real X K b g h i 0 0 q
    unfold D; dsimp only
    rw [if_pos (by unfold Spec.row; dsimp only; omega), ha]
    exact EReal.coe_ne_bot a
  last j hj k q := by
    unfold D; dsimp only
    rw [if_neg (by unfold Spec.row; dsimp only; have := Fin.lt_def.mp hj; omega)]

theorem trips_eq (i : grid3.Coords) : (k3_t1_loop i).trips = (i 2).val := by
  exact (by decide +kernel : ∀ n : Fin 32, Scf.trips (0#32) (Scalar.addi 0#32 (Scalar.muli (Scalar.divsi (Scalar.subi (BitVec.ofNat 32 n.val) 0#32) 1#32) 1#32)) (1#32) = n.val) (i 2)

section
variable (i : grid3.Coords) (arg3 : Memref sig .tc .smem S8x2x32 .f32) (harg3 : arg3.IsWhole) (arg4 : Memref sig .tc .smem S8x2x32 .f32) (harg4 : arg4.IsWhole) (arg5 : Memref sig .tc .vmem S1x8x128x256 .fp8e4m3) (harg5 : arg5.IsWhole) (arg6 : Memref sig .tc .vmem S1x1x8x128 .f32) (harg6 : arg6.IsWhole) (arg7 : Memref sig .tc .vmem S1x1x4096x256 .fp8e4m3) (harg7 : arg7.IsWhole) (arg8 : Memref sig .tc .vmem S1x1x256x4096 .fp8e4m3) (harg8 : arg8.IsWhole)
  (x0 : Vec Ideal S8x2x32 .f32) (x1 : Vec Ideal S8x2x32 .f32) (x2 : Vec Ideal S1x8x128x256 .fp8e4m3) (x3 : Vec Ideal S1x1x8x128 .f32) (x4 : Vec Ideal S1x1x4096x256 .fp8e4m3) (x5 : Vec Ideal S1x1x256x4096 .fp8e4m3)

theorem keysAt_apply (k : Fin (k3_t1_loop i).trips) (j : Fin 32) (hj : j.val = k.val) (a : Fin 128) (x : Fin 256) :
    keysAt i arg7 (harg7.unread x4) k (ix4 0 0 a x) = x4 (ix4 0 0 (Spec.row j a) x) := by
  unfold keysAt Spec.row
  rw [View.readAt_eq_ld, harg7.read_unread]
  pointwise []
  have e := k3_off1_eq i k
  refine congrArg x4 (funext fun z => Fin.ext ?_)
  match z with
  | 0 => exact congrFun e 0
  | 1 => exact congrFun e 1
  | 2 => exact (congrArg (· + a.val) (congrFun e 2)).trans (by show 128 * k.val + a.val = 128 * j.val + a.val; rw [hj])
  | 3 => exact (congrArg (· + x.val) (congrFun e 3)).trans (Nat.zero_add _)
theorem valsAt_apply (k : Fin (k3_t1_loop i).trips) (j : Fin 32) (hj : j.val = k.val) (d : Fin 256) (a : Fin 128) :
    valsAt i arg8 (harg8.unread x5) k (ix4 0 0 d a) = x5 (ix4 0 0 d (Spec.row j a)) := by
  unfold valsAt Spec.row
  rw [View.readAt_eq_ld, harg8.read_unread]
  pointwise []
  have e := k3_off2_eq i k
  refine congrArg x5 (funext fun z => Fin.ext ?_)
  match z with
  | 0 => exact congrFun e 0
  | 1 => exact congrFun e 1
  | 2 => exact (congrArg (· + d.val) (congrFun e 2)).trans (Nat.zero_add _)
  | 3 => exact (congrArg (· + a.val) (congrFun e 3)).trans (by show 128 * k.val + a.val = 128 * j.val + a.val; rw [hj])
theorem scaleAt_apply (k : Fin (k3_t1_loop i).trips) (j : Fin 32) (hj : j.val = k.val) :
    scaleAt i arg3 (harg3.unread x0) k = x0 (ix3 (i 0) (i 1) j) := by
  unfold scaleAt
  rw [View.readAt_eq_ld, harg3.read_unread]
  refine congrArg x0 (funext fun a => Fin.ext ?_)
  have hz : ∀ x : S1x1x1.Idx, ∀ a, (x a).val = 0 := fun x a => match a with
    | 0 => Nat.lt_one_iff.mp (x 0).isLt | 1 => Nat.lt_one_iff.mp (x 1).isLt | 2 => Nat.lt_one_iff.mp (x 2).isLt
  show k3_off3 i k a + 1 * (Shape.Idx.first (s := S1x1x1) (numel1_S1x1x1.symm ▸ Nat.one_pos) a).val = _
  rw [hz, k3_off3_eq i k]
  match a with
  | 0 => rfl
  | 1 => rfl
  | 2 => exact hj.symm
theorem keysD_apply (j : Fin 32) (hj : j.val = (i 2).val) (a : Fin 128) (x : Fin 256) :
    keysD i arg7 harg7 x4 (ix4 0 0 a x) = x4 (ix4 0 0 (Spec.row j a) x) := by
  unfold keysD Spec.row
  rw [View.readAt_eq_ld, harg7.read_unread]
  pointwise []
  have e := k3_off7_eq i
  refine congrArg x4 (funext fun z => Fin.ext ?_)
  match z with
  | 0 => exact congrFun e 0
  | 1 => exact congrFun e 1
  | 2 => exact (congrArg (· + a.val) (congrFun e 2)).trans (by show 128 * (i 2).val + a.val = 128 * j.val + a.val; rw [hj])
  | 3 => exact (congrArg (· + x.val) (congrFun e 3)).trans (Nat.zero_add _)
theorem valsD_apply (j : Fin 32) (hj : j.val = (i 2).val) (d : Fin 256) (a : Fin 128) :
    valsD i arg8 harg8 x5 (ix4 0 0 d a) = x5 (ix4 0 0 d (Spec.row j a)) := by
  unfold valsD Spec.row
  rw [View.readAt_eq_ld, harg8.read_unread]
  pointwise []
  have e := k3_off8_eq i
  refine congrArg x5 (funext fun z => Fin.ext ?_)
  match z with
  | 0 => exact congrFun e 0
  | 1 => exact congrFun e 1
  | 2 => exact (congrArg (· + d.val) (congrFun e 2)).trans (Nat.zero_add _)
  | 3 => exact (congrArg (· + a.val) (congrFun e 3)).trans (by show 128 * (i 2).val + a.val = 128 * j.val + a.val; rw [hj])
theorem scaleD_apply (j : Fin 32) (hj : j.val = (i 2).val) :
    scaleD i arg3 harg3 x0 = x0 (ix3 (i 0) (i 1) j) := by
  unfold scaleD
  rw [View.readAt_eq_ld, harg3.read_unread]
  refine congrArg x0 (funext fun a => Fin.ext ?_)
  have hz : ∀ x : S1x1x1.Idx, ∀ a, (x a).val = 0 := fun x a => match a with
    | 0 => Nat.lt_one_iff.mp (x 0).isLt | 1 => Nat.lt_one_iff.mp (x 1).isLt | 2 => Nat.lt_one_iff.mp (x 2).isLt
  show k3_off9 i a + 1 * (Shape.Idx.first (s := S1x1x1) (numel1_S1x1x1.symm ▸ Nat.one_pos) a).val = _
  rw [hz, k3_off9_eq i]
  match a with
  | 0 => rfl
  | 1 => rfl
  | 2 => exact hj.symm
theorem qD_apply (h : Fin 8) (q : Fin 128) (x : Fin 256) :
    qD arg5 harg5 x2 (ix2 ⟨128 * h.val + q.val, by omega⟩ x) = x2 (ix4 0 h q x) := by
  unfold qD
  rw [View.readAt_eq_ld, harg5.read_unread]
  pointwise [k3_pay138]
theorem qsD_apply (h : Fin 8) (q : Fin 128) :
    qsD arg6 harg6 x3 (ix2 h q) = x3 (ix4 0 0 h q) := by
  unfold qsD
  rw [View.readAt_eq_ld, harg6.read_unread]
  pointwise [k3_pay139]

/-- A grid point whose blocks hold the codes and scales reads the data of its batch entry, group and query block. -/
theorem point_of (b : Fin 8) (g : Fin 2) (n : Fin 32) (hb : b.val = (i 0).val) (hg : g.val = (i 1).val) (hn : n.val = (i 2).val)
    (h0 : ∀ j, x0 (ix3 (i 0) (i 1) j) = pw (qexp (kblk K b g j))) (h1 : ∀ j, x1 (ix3 (i 0) (i 1) j) = pw (qexp (kblk W b g j)))
    (h2 : ∀ h q x, x2 (ix4 0 h q x) = qcode (xblk X b (qhead g h) n) q x)
    (h3 : ∀ h q, x3 (ix4 0 0 h q) = pw (qexp (xblk X b (qhead g h) n)))
    (h4 : ∀ j k x, x4 (ix4 0 0 (Spec.row j k) x) = qcode (kblk K b g j) k x)
    (h5 : ∀ j k d, x5 (ix4 0 0 d (Spec.row j k)) = qcode (kblk W b g j) k d) :
    Point i arg3 harg3 arg4 harg4 arg5 harg5 arg6 harg6 arg7 harg7 arg8 harg8 x0 x1 x2 x3 x4 x5 fun h => D X K W b g h n where
  trip k j hj := by
    have hk : k.val < (i 2).val := lt_of_lt_of_eq k.isLt (trips_eq i)
    refine ⟨fun h a q => ?_, fun h q => ?_, fun h => ?_, fun h => ?_, fun h d a => ?_⟩
    · rw [scores_apply]
      unfold D dotc; dsimp only
      rw [if_pos (by unfold Spec.row; dsimp only; omega)]
      refine Finset.sum_congr rfl fun x _ => ?_
      rw [keysAt_apply i arg7 harg7 x4 k j hj, qD_apply, h4, h2]
    · rw [qsD_apply, h3]; rfl
    · rw [scaleAt_apply i arg3 harg3 x0 k j hj, h0]; rfl
    · rw [scaleAt_apply i arg4 harg4 x1 k j hj, h1]; rfl
    · rw [vals_apply, valsAt_apply i arg8 harg8 x5 k j hj, h5]; rfl
  diag j hj := by
    refine ⟨fun h a q => ?_, fun h q => ?_, fun h => ?_, fun h => ?_, fun h d a => ?_⟩
    · unfold stD
      rw [masked_apply, scores_apply]
      unfold D dotc; dsimp only
      refine if_congr (by unfold Spec.row; dsimp only; omega) ?_ rfl
      refine Finset.sum_congr rfl fun x _ => ?_
      rw [keysD_apply i arg7 harg7 x4 j hj, qD_apply, h4, h2]
    · rw [qsD_apply, h3]; rfl
    · rw [scaleD_apply i arg3 harg3 x0 j hj, h0]; rfl
    · rw [scaleD_apply i arg4 harg4 x1 j hj, h1]; rfl
    · rw [vals_apply, valsD_apply i arg8 harg8 x5 j hj, h5]; rfl
end

end Cert.Data
end
-- ==== Proof.Att.lean ====
/-
  The array that the attention call leaves, whole.
-/
module

public import proofs.«01_k».proof.Proof.Data
public import Idealize.ShloMosaic.Lib.Pipeline.ValueKit
public import Idealize.ShloMosaic.Lib.Pipeline.Covers
import all proofs.«01_k».proof.Proof.Gen.KernelIdeal.Frame
public import proofs.«01_k».proof.Proof.Gen.KernelIdeal.Frame

@[expose] public section

set_option maxRecDepth 16384

noncomputable section

namespace Cert.Att

open Idealize.ShloMosaic Idealize.ShloMosaic.TcCoe Cert.KernelIdeal Cert.KernelIdeal.Gen Cert.Expo Cert.Head Cert.Quant Cert.Spec Cert.Tile Cert.Data

/-- The attention at a batch entry, a group, a head of it, a query and a feature: the accumulator over all key blocks,
    divided by the sum of the weights. -/
def attAt (X : Vec Ideal S8x4096x4096 .bf16) (K W : Vec Ideal S8x4096x512 .bf16) (b : Fin 8) (g : Fin 2) (h : Fin 8) (i : Fin 32) (q : Fin 128) (d : Fin 256) : EReal :=
  Ideal.div ((rst (Data.D X K W b g h i) 32).a q d) ((rst (Data.D X K W b g h i) 32).l q)

/-- The attention, the heads side by side. -/
def att (X : Vec Ideal S8x4096x4096 .bf16) (K W : Vec Ideal S8x4096x512 .bf16) : Vec Ideal S8x4096x4096 .bf16 := fun y =>
  attAt X K W (y 0) ⟨(y 2).val / 2048, by have := (y 2).isLt; simp at this; omega⟩ ⟨(y 2).val / 256 % 8, by omega⟩ (rowBlk (y 1)) (rowPos (y 1)) ⟨(y 2).val % 256, by omega⟩

/-- The column of a head of a group. -/
def col (g : Fin 2) (h : Fin 8) (d : Fin 256) : Fin 4096 := ⟨2048 * g.val + 256 * h.val + d.val, by omega⟩

theorem att_row (X : Vec Ideal S8x4096x4096 .bf16) (K W : Vec Ideal S8x4096x512 .bf16) (b : Fin 8) (g : Fin 2) (h : Fin 8) (i : Fin 32) (q : Fin 128) (d : Fin 256) :
    att X K W (ix3 b (Spec.row i q) (col g h d)) = attAt X K W b g h i q d := by
  unfold att
  dsimp only
  have e1 : (⟨(col g h d).val / 2048, by omega⟩ : Fin 2) = g := Fin.ext (by unfold col; dsimp only; omega)
  have e2 : (⟨(col g h d).val / 256 % 8, by omega⟩ : Fin 8) = h := Fin.ext (by unfold col; dsimp only; omega)
  have e3 : (⟨(col g h d).val % 256, by omega⟩ : Fin 256) = d := Fin.ext (by unfold col; dsimp only; omega)
  have e4 := rowBlk_row i q
  have e5 := rowPos_row i q
  show attAt X K W b ⟨(col g h d).val / 2048, _⟩ ⟨(col g h d).val / 256 % 8, _⟩ (rowBlk (Spec.row i q)) (rowPos (Spec.row i q)) ⟨(col g h d).val % 256, _⟩ = _
  rw [e1, e2, e3, e4, e5]

/-- The order in which a grid point's pieces lie. -/
def order : List (Fin 8) := [7, 6, 5, 4, 3, 2, 1, 0]
theorem mem_order (h : Fin 8) : h ∈ order := by revert h; decide

theorem yR_emb (h : Fin 8) (q : Fin 128) (d : Fin 256) : (yR h).emb (ix3 0 q d) = ix3 0 q ⟨256 * h.val + d.val, by omega⟩ := by
  unfold yR; blk_ext []

theorem split_y (x : S1x128x256.Idx) : ∃ (q : Fin 128) (d : Fin 256), x = ix3 0 q d :=
  ⟨x 1, x 2, by ext a; match a with | 0 => (have := (x 0).isLt; exact Nat.lt_one_iff.mp this) | 1 => rfl | 2 => rfl⟩

/-- The block that the pieces make together. -/
def yG (a : Fin 8 → FVec Ideal S1x128x256 .bf16) (y : S1x128x2048.Idx) : Elt Ideal .bf16 :=
  a ⟨(y 2).val / 256, by have h : (y 2).val < 2048 := (y 2).isLt; omega⟩ (ix3 0 (y 1) ⟨(y 2).val % 256, by omega⟩)

theorem yG_apply (a : Fin 8 → FVec Ideal S1x128x256 .bf16) (h : Fin 8) (q : Fin 128) (d : Fin 256) :
    yG a (ix3 0 q ⟨256 * h.val + d.val, by omega⟩) = a h (ix3 0 q d) := by
  have e1 : (⟨(256 * h.val + d.val) / 256, by omega⟩ : Fin 8) = h := Fin.ext (by dsimp only; omega)
  have e2 : (⟨(256 * h.val + d.val) % 256, by omega⟩ : Fin 256) = d := Fin.ext (by dsimp only; omega)
  show a ⟨(256 * h.val + d.val) / 256, _⟩ (ix3 0 q ⟨(256 * h.val + d.val) % 256, _⟩) = _
  rw [e1, e2]

theorem yG_piece (a : Fin 8 → FVec Ideal S1x128x256 .bf16) (k : Fin 8) (x : S1x128x256.Idx) : a k x = yG a ((yR k).emb x) := by
  obtain ⟨q, d, rfl⟩ := split_y x
  rw [yR_emb]
  exact (yG_apply a k q d).symm

/-- The pieces as a list over the heads. -/
def yList (a : ∀ h : Fin 8, (yR h).shape.Idx → Elt Ideal .bf16) : List (View.Piece (Elt Ideal) S1x128x2048 .bf16) := order.map fun h => ⟨yR h, a h⟩
theorem yPieces_eq (a : Fin 8 → FVec Ideal S1x128x256 .bf16) : yPieces a = yList a := rfl

theorem yList_canon (a : ∀ h : Fin 8, (yR h).shape.Idx → Elt Ideal .bf16) (G : S1x128x2048.Idx → Elt Ideal .bf16)
    (hG : ∀ k x, a k x = G ((yR k).emb x)) (h : Fin 8) (x : (yR h).shape.Idx) : View.canon (yList a) ((yR h).emb x) = G ((yR h).emb x) :=
  canon_map order yR a G hG _ h (mem_order h) (emb_mem _ _)

theorem canon_y (a : Fin 8 → FVec Ideal S1x128x256 .bf16) (h : Fin 8) (q : Fin 128) (d : Fin 256) :
    View.canon (yPieces a) (ix3 0 q ⟨256 * h.val + d.val, by omega⟩) = a h (ix3 0 q d) :=
  (congrFun (congrArg View.canon (yPieces_eq a)) _).trans ((congrArg (View.canon (yList a)) (yR_emb h q d).symm).trans
    ((yList_canon a (yG a) (fun k x => yG_piece a k x) h (ix3 0 q d)).trans ((congrArg (yG a) (yR_emb h q d)).trans (yG_apply a h q d))))

theorem idx3_0 : ∀ t : Fin grid3.N, win3_0.index t = ![0, 0, 0] := by decide +kernel
theorem idx3_1 : ∀ t : Fin grid3.N, win3_1.index t = ![0, 0, 0] := by decide +kernel
theorem idx3_2 : ∀ t : Fin grid3.N, win3_2.index t = ![(grid3.coords t 0).val, (grid3.coords t 1).val, (grid3.coords t 2).val, 0] := by decide +kernel
theorem idx3_3 : ∀ t : Fin grid3.N, win3_3.index t = ![(grid3.coords t 0).val, (grid3.coords t 2).val, (grid3.coords t 1).val, 0] := by decide +kernel
theorem idx3_4 : ∀ t : Fin grid3.N, win3_4.index t = ![(grid3.coords t 0).val, (grid3.coords t 1).val, 0, 0] := by decide +kernel
theorem idx3_5 : ∀ t : Fin grid3.N, win3_5.index t = ![(grid3.coords t 0).val, (grid3.coords t 1).val, 0, 0] := by decide +kernel
theorem idx3_6 : ∀ t : Fin grid3.N, win3_6.index t = ![(grid3.coords t 0).val, (grid3.coords t 2).val, (grid3.coords t 1).val] := by decide +kernel

variable (V : (c : Dev nD) → (b : Ref sig .tc) → Buf (Elt Ideal) ((c : Thread nD τ).loc b)) (c : Dev nD)

theorem blk3_0 (t : Fin cfg3.N) (b : Fin 8) (g : Fin 2) (j : Fin 32) : iblk3 V c 0 t (ix3 b g j) = (V c main_v8 : Vec Ideal S8x2x32 .f32) (ix3 b g j) := by
  blk_ext [iblk3, idx3_0 t]
theorem blk3_1 (t : Fin cfg3.N) (b : Fin 8) (g : Fin 2) (j : Fin 32) : iblk3 V c 1 t (ix3 b g j) = (V c main_v11 : Vec Ideal S8x2x32 .f32) (ix3 b g j) := by
  blk_ext [iblk3, idx3_1 t]
theorem blk3_2 (t : Fin cfg3.N) (h : Fin 8) (q : Fin 128) (x : Fin 256) : iblk3 V c 2 t (ix4 0 h q x) = (V c main_v0_0 : Vec Ideal S8x16x4096x256 .fp8e4m3) (ix4 (grid3.coords t 0) (qhead (grid3.coords t 1) h) (Spec.row (grid3.coords t 2) q) x) := by
  unfold qhead Spec.row
  blk_ext [iblk3, idx3_2 t]
theorem blk3_3 (t : Fin cfg3.N) (h : Fin 8) (q : Fin 128) : iblk3 V c 3 t (ix4 0 0 h q) = (V c main_v0_1 : Vec Ideal S8x32x16x128 .f32) (ix4 (grid3.coords t 0) (grid3.coords t 2) (qhead (grid3.coords t 1) h) q) := by
  unfold qhead
  blk_ext [iblk3, idx3_3 t]
theorem blk3_4 (t : Fin cfg3.N) (s : Fin 4096) (x : Fin 256) : iblk3 V c 4 t (ix4 0 0 s x) = (V c main_v1_0 : Vec Ideal S8x2x4096x256 .fp8e4m3) (ix4 (grid3.coords t 0) (grid3.coords t 1) s x) := by
  blk_ext [iblk3, idx3_4 t]
theorem blk3_5 (t : Fin cfg3.N) (s : Fin 4096) (x : Fin 256) : iblk3 V c 5 t (ix4 0 0 x s) = (V c main_v2_2 : Vec Ideal S8x2x256x4096 .fp8e4m3) (ix4 (grid3.coords t 0) (grid3.coords t 1) x s) := by
  blk_ext [iblk3, idx3_5 t]

theorem emb3_6 (t : Fin cfg3.N) (h : Fin 8) (q : Fin 128) (d : Fin 256) :
    ((cfg3.win 6).blk t).view.emb (ix3 0 q ⟨256 * h.val + d.val, by omega⟩) = (ix3 (grid3.coords t 0) (Spec.row (grid3.coords t 2) q) (col (grid3.coords t 1) h d)) := by
  unfold Spec.row col
  blk_ext [idx3_6 t]

theorem cov3_6 : (cfg3.win 6).Covers := by
  refine (cfg3.win 6).covers_of_index_surj rfl (by decide) fun β => ?_
  obtain ⟨t, ht⟩ := grid3.coords_surjective (fun a => match a with | 0 => β 0 | 1 => β 2 | 2 => β 1)
  refine ⟨t, fun a => (congrFun (idx3_6 t) a).trans ?_⟩
  rw [ht]
  match a with | 0 => rfl | 1 => rfl | 2 => rfl

theorem split_o (y : S1x128x2048.Idx) : ∃ (h : Fin 8) (q : Fin 128) (d : Fin 256), y = ix3 0 q ⟨256 * h.val + d.val, by omega⟩ :=
  have h2 : (y 2).val < 2048 := (y 2).isLt
  ⟨⟨(y 2).val / 256, by omega⟩, y 1, ⟨(y 2).val % 256, by omega⟩, by
    ext a; match a with | 0 => (have := (y 0).isLt; exact Nat.lt_one_iff.mp this) | 1 => rfl | 2 => (show (y 2).val = 256 * ((y 2).val / 256) + (y 2).val % 256; omega)⟩

variable (X : Vec Ideal S8x4096x4096 .bf16) (K W : Vec Ideal S8x4096x512 .bf16)

/-- What a grid point leaves in its output block. -/
theorem outsAt3_apply (e0 : V c main_v8 = scales2 K) (e1 : V c main_v11 = scales2 W) (e2 : V c main_v0_0 = codes16 X) (e3 : V c main_v0_1 = lanes16 X)
    (e4 : V c main_v1_0 = codes2 K) (e5 : V c main_v2_2 = codesT2 W) (t : Fin cfg3.N) (h : Fin 8) (q : Fin 128) (d : Fin 256) :
    outsAt3 V c t (ix3 0 q ⟨256 * h.val + d.val, by omega⟩) = attAt X K W (grid3.coords t 0) (grid3.coords t 1) h (grid3.coords t 2) q d := by
  have hp := point_of X K W (grid3.coords t) (ms3_0 t) (hs3_0 t) (ms3_1 t) (hs3_1 t) (ms3_2 t) (hs3_2 t) (ms3_3 t) (hs3_3 t) (ms3_4 t) (hs3_4 t) (ms3_5 t) (hs3_5 t)
    (iblk3 V c 0 t) (iblk3 V c 1 t) (iblk3 V c 2 t) (iblk3 V c 3 t) (iblk3 V c 4 t) (iblk3 V c 5 t) (grid3.coords t 0) (grid3.coords t 1) (grid3.coords t 2) rfl rfl rfl
    (fun j => (blk3_0 V c t _ _ j).trans (congrFun e0 _)) (fun j => (blk3_1 V c t _ _ j).trans (congrFun e1 _))
    (fun h q x => (blk3_2 V c t h q x).trans ((congrFun e2 _).trans (codes16_row X _ _ _ _ _)))
    (fun h q => (blk3_3 V c t h q).trans (congrFun e3 _))
    (fun j k x => (blk3_4 V c t _ x).trans ((congrFun e4 _).trans (codes2_row K _ _ _ _ _)))
    (fun j k d => (blk3_5 V c t _ d).trans ((congrFun e5 _).trans (codesT2_row W _ _ _ _ _)))
  obtain ⟨a, ha, hv⟩ := run3_tie c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _)
    (iblk3 V c 0 t) (iblk3 V c 1 t) (iblk3 V c 2 t) (iblk3 V c 3 t) (iblk3 V c 4 t) (iblk3 V c 5 t) _ hp (trips_eq _)
  unfold outsAt3 out3_A_6
  rw [ha, View.read_writes_junk_eq_canon]
  refine (canon_y a h q d).trans ((hv h q d).trans ?_)
  exact attend_eq (D_causal X K W (grid3.coords t 0) (grid3.coords t 1) h (grid3.coords t 2)) q d

/-- The attention call's array. -/
theorem att_3 (e0 : V c main_v8 = scales2 K) (e1 : V c main_v11 = scales2 W) (e2 : V c main_v0_0 = codes16 X) (e3 : V c main_v0_1 = lanes16 X)
    (e4 : V c main_v1_0 = codes2 K) (e5 : V c main_v2_2 = codesT2 W) : (dat3 V c).arrAt 6 cfg3.N = att X K W := by
  refine (dat3 V c).arrAt_eq_of_covers 6 _ cov3_6 fun t hf y => ?_
  blk_simp
  rw [after3_6]
  obtain ⟨h, q, d, rfl⟩ := split_o y
  refine (outsAt3_apply V c X K W e0 e1 e2 e3 e4 e5 t h q d).trans ?_
  exact ((congrArg (att X K W) (emb3_6 t h q d)).trans (att_row X K W _ _ _ _ _ _)).symm

end Cert.Att
end
-- ==== Proof.Host.lean ====
/-
  The host operations between the quantisers and the attention: each scale array is read at its first lane and turned
  around from block by head to head by block.
-/
module

public import proofs.«01_k».proof.Proof.Spec
public import Idealize.ShloMosaic.Lib.Pointwise
public import Idealize.ShloMosaic.Lib.StableHlo.ReadAt
import all proofs.«01_k».proof.Proof.Gen.KernelIdeal.Frame
public import proofs.«01_k».proof.Proof.Gen.KernelIdeal.Frame

@[expose] public section

set_option maxRecDepth 16384

noncomputable section

namespace Cert.Host

open Idealize.ShloMosaic Idealize.ShloMosaic.TcCoe Cert.KernelIdeal Cert.KernelIdeal.Gen Cert.Expo Cert.Head Cert.Quant Cert.Spec

variable (W : Valuation τ sig (Elt Ideal))

theorem v5_at (b : Fin 8) (h : Fin 16) (i : Fin 32) :
    (StableHlo.after (hostOps3 (F := Ideal)) W (Proc.devRef .tc main_v5) : Vec Ideal S8x16x32 .f32) (ix3 b h i)
      = (W (Proc.devRef .tc main_v0_1) : Vec Ideal S8x32x16x128 .f32) (ix4 b i h 0) := by
  after_reads_at
theorem v8_at (b : Fin 8) (h : Fin 2) (i : Fin 32) :
    (StableHlo.after (hostOps3 (F := Ideal)) W (Proc.devRef .tc main_v8) : Vec Ideal S8x2x32 .f32) (ix3 b h i)
      = (W (Proc.devRef .tc main_v1_1) : Vec Ideal S8x32x2x128 .f32) (ix4 b i h 0) := by
  after_reads_at
theorem v11_at (b : Fin 8) (h : Fin 2) (i : Fin 32) :
    (StableHlo.after (hostOps3 (F := Ideal)) W (Proc.devRef .tc main_v11) : Vec Ideal S8x2x32 .f32) (ix3 b h i)
      = (W (Proc.devRef .tc main_v2_1) : Vec Ideal S8x32x2x128 .f32) (ix4 b i h 0) := by
  after_reads_at

end Cert.Host
end
-- ==== Proof.KRun.lean ====
/-
  The kernel's run with its results named by the contents at the exit of its last region.
-/
module

import all proofs.«01_k».proof.Proof.Gen.KernelIdeal.Frame
public import proofs.«01_k».proof.Proof.Gen.KernelIdeal.Frame

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel with every result named: each holds what the last region's exit contents say. -/
theorem run_results : θ_run defs (onTc (τ := τ) (main (F := F))) ⟨m, fun _ => 0, ρ⟩ (fun r => ∀ c : Dev nD,
r.2.mem ((c.tc : Thread nD τ).loc main_v12) = W5 m ρ c (Proc.devRef .tc main_v12)
      ∧ r.2.mem ((c.tc : Thread nD τ).loc main_v0_0) = W5 m ρ c (Proc.devRef .tc main_v0_0)
      ∧ r.2.mem ((c.tc : Thread nD τ).loc main_v5) = W5 m ρ c (Proc.devRef .tc main_v5)
      ∧ r.2.mem ((c.tc : Thread nD τ).loc main_v1_0) = W5 m ρ c (Proc.devRef .tc main_v1_0)
      ∧ r.2.mem ((c.tc : Thread nD τ).loc main_v8) = W5 m ρ c (Proc.devRef .tc main_v8)
      ∧ r.2.mem ((c.tc : Thread nD τ).loc main_v2_0) = W5 m ρ c (Proc.devRef .tc main_v2_0)
      ∧ r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v12 (by decide)),
       h c _ (mem_uc main_v0_0 (by decide)),
       h c _ (mem_uc main_v5 (by decide)),
       h c _ (mem_uc main_v1_0 (by decide)),
       h c _ (mem_uc main_v8 (by decide)),
       h c _ (mem_uc main_v2_0 (by decide)),
       h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelRun
end
-- ==== Proof.KVal.lean ====
/-
  The kernel's results, as functions of its arguments.
-/
module

public import proofs.«01_k».proof.Proof.Arr
public import proofs.«01_k».proof.Proof.Att
public import proofs.«01_k».proof.Proof.Host
public import proofs.«01_k».proof.Proof.KRun

@[expose] public section

set_option maxRecDepth 16384

noncomputable section

namespace Cert.KVal

open Idealize.ShloMosaic Idealize.ShloMosaic.TcCoe Cert.KernelIdeal Cert.KernelIdeal.Gen Cert.Spec Cert.Arr Cert.Att Cert.Host Idealize.SL.Sem

variable (m : (ℓ : Loc nD τ sig) → Buf (Elt Ideal) ℓ) (ρ : Dev nD → PrngReg) (c : Dev nD)

/-- The queries, the keys and the values of the call. -/
abbrev qIn : Vec Ideal S8x4096x4096 .bf16 := m ((c.tc : Thread nD τ).loc main_arg0)
abbrev kIn : Vec Ideal S8x4096x512 .bf16 := m ((c.tc : Thread nD τ).loc main_arg1)
abbrev vIn : Vec Ideal S8x4096x512 .bf16 := m ((c.tc : Thread nD τ).loc main_arg2)

theorem w1_codes : W1 m ρ c (Proc.devRef .tc main_v0_0) = codes16 (qIn m c) := (W1_arr m ρ c 1).trans (codes16_0 (V0 m ρ) c)
theorem w1_lanes : W1 m ρ c (Proc.devRef .tc main_v0_1) = lanes16 (qIn m c) := (W1_arr m ρ c 2).trans (lanes16_0 (V0 m ρ) c)
theorem w2_codes : W2 m ρ c (Proc.devRef .tc main_v1_0) = codes2 (kIn m c) :=
  (W2_arr m ρ c 1).trans ((codes2_1 (V1 m ρ) c).trans (congrArg codes2 (W1_args m ρ c main_arg1 (by decide))))
theorem w2_lanes : W2 m ρ c (Proc.devRef .tc main_v1_1) = lanes2 (kIn m c) :=
  (W2_arr m ρ c 2).trans ((lanes2_1 (V1 m ρ) c).trans (congrArg lanes2 (W1_args m ρ c main_arg1 (by decide))))
theorem w3_codes : W3 m ρ c (Proc.devRef .tc main_v2_0) = codes2 (vIn m c) :=
  (W3_arr m ρ c 1).trans ((codes2_2 (V2 m ρ) c).trans (congrArg codes2 (W2_args m ρ c main_arg2 (by decide))))
theorem w3_lanes : W3 m ρ c (Proc.devRef .tc main_v2_1) = lanes2 (vIn m c) :=
  (W3_arr m ρ c 2).trans ((lanes2_2 (V2 m ρ) c).trans (congrArg lanes2 (W2_args m ρ c main_arg2 (by decide))))
theorem w3_codesT : W3 m ρ c (Proc.devRef .tc main_v2_2) = codesT2 (vIn m c) :=
  (W3_arr m ρ c 3).trans ((codesT2_2 (V2 m ρ) c).trans (congrArg codesT2 (W2_args m ρ c main_arg2 (by decide))))

theorem w3_codes16 : W3 m ρ c (Proc.devRef .tc main_v0_0) = codes16 (qIn m c) :=
  (W3_of m ρ c main_v0_0 (by decide)).trans ((W2_of m ρ c main_v0_0 (by decide)).trans (w1_codes m ρ c))
theorem w3_lanes16 : W3 m ρ c (Proc.devRef .tc main_v0_1) = lanes16 (qIn m c) :=
  (W3_of m ρ c main_v0_1 (by decide)).trans ((W2_of m ρ c main_v0_1 (by decide)).trans (w1_lanes m ρ c))
theorem w3_kcodes : W3 m ρ c (Proc.devRef .tc main_v1_0) = codes2 (kIn m c) := (W3_of m ρ c main_v1_0 (by decide)).trans (w2_codes m ρ c)
theorem w3_klanes : W3 m ρ c (Proc.devRef .tc main_v1_1) = lanes2 (kIn m c) := (W3_of m ρ c main_v1_1 (by decide)).trans (w2_lanes m ρ c)

theorem w4_codes16 : W4 m ρ c (Proc.devRef .tc main_v0_0) = codes16 (qIn m c) := (W4_of m ρ c main_v0_0 (by decide)).trans (w3_codes16 m ρ c)
theorem w4_lanes16 : W4 m ρ c (Proc.devRef .tc main_v0_1) = lanes16 (qIn m c) := (W4_of m ρ c main_v0_1 (by decide)).trans (w3_lanes16 m ρ c)
theorem w4_kcodes : W4 m ρ c (Proc.devRef .tc main_v1_0) = codes2 (kIn m c) := (W4_of m ρ c main_v1_0 (by decide)).trans (w3_kcodes m ρ c)
theorem w4_vcodes : W4 m ρ c (Proc.devRef .tc main_v2_0) = codes2 (vIn m c) := (W4_of m ρ c main_v2_0 (by decide)).trans (w3_codes m ρ c)
theorem w4_vcodesT : W4 m ρ c (Proc.devRef .tc main_v2_2) = codesT2 (vIn m c) := (W4_of m ρ c main_v2_2 (by decide)).trans (w3_codesT m ρ c)
theorem w4_qscales : W4 m ρ c (Proc.devRef .tc main_v5) = scales16 (qIn m c) := by
  refine funext fun (y : S8x16x32.Idx) => ?_
  rw [eq_ix3 y]
  exact (v5_at (W3 m ρ c) (y 0) (y 1) (y 2)).trans (congrFun (w3_lanes16 m ρ c) _)
theorem w4_kscales : W4 m ρ c (Proc.devRef .tc main_v8) = scales2 (kIn m c) := by
  refine funext fun (y : S8x2x32.Idx) => ?_
  rw [eq_ix3 y]
  exact (v8_at (W3 m ρ c) (y 0) (y 1) (y 2)).trans (congrFun (w3_klanes m ρ c) _)
theorem w4_vscales : W4 m ρ c (Proc.devRef .tc main_v11) = scales2 (vIn m c) := by
  refine funext fun (y : S8x2x32.Idx) => ?_
  rw [eq_ix3 y]
  exact (v11_at (W3 m ρ c) (y 0) (y 1) (y 2)).trans (congrFun (w3_lanes m ρ c) _)

theorem w5_y : W5 m ρ c (Proc.devRef .tc main_v12) = att (qIn m c) (kIn m c) (vIn m c) :=
  (W5_arr m ρ c 6).trans (att_3 (V4 m ρ) c (qIn m c) (kIn m c) (vIn m c) (w4_kscales m ρ c) (w4_vscales m ρ c) (w4_codes16 m ρ c) (w4_lanes16 m ρ c) (w4_kcodes m ρ c) (w4_vcodesT m ρ c))
theorem w5_codes16 : W5 m ρ c (Proc.devRef .tc main_v0_0) = codes16 (qIn m c) := (W5_of m ρ c main_v0_0 (by decide)).trans (w4_codes16 m ρ c)
theorem w5_qscales : W5 m ρ c (Proc.devRef .tc main_v5) = scales16 (qIn m c) := (W5_of m ρ c main_v5 (by decide)).trans (w4_qscales m ρ c)
theorem w5_kcodes : W5 m ρ c (Proc.devRef .tc main_v1_0) = codes2 (kIn m c) := (W5_of m ρ c main_v1_0 (by decide)).trans (w4_kcodes m ρ c)
theorem w5_kscales : W5 m ρ c (Proc.devRef .tc main_v8) = scales2 (kIn m c) := (W5_of m ρ c main_v8 (by decide)).trans (w4_kscales m ρ c)
theorem w5_vcodes : W5 m ρ c (Proc.devRef .tc main_v2_0) = codes2 (vIn m c) := (W5_of m ρ c main_v2_0 (by decide)).trans (w4_vcodes m ρ c)
theorem w5_vscales : W5 m ρ c (Proc.devRef .tc main_v11) = scales2 (vIn m c) := (W5_of m ρ c main_v11 (by decide)).trans (w4_vscales m ρ c)

/-- The kernel's run: the attention, the codes and the scales, each the function of the arguments that `Spec` and `Att` write. -/
theorem run : θ_run defs (onTc (τ := τ) (main (F := Ideal))) ⟨m, fun _ => 0, ρ⟩ (fun r => ∀ c : Dev nD,
      r.2.mem ((c.tc : Thread nD τ).loc main_v12) = att (qIn m c) (kIn m c) (vIn m c)
      ∧ r.2.mem ((c.tc : Thread nD τ).loc main_v0_0) = codes16 (qIn m c)
      ∧ r.2.mem ((c.tc : Thread nD τ).loc main_v5) = scales16 (qIn m c)
      ∧ r.2.mem ((c.tc : Thread nD τ).loc main_v1_0) = codes2 (kIn m c)
      ∧ r.2.mem ((c.tc : Thread nD τ).loc main_v8) = scales2 (kIn m c)
      ∧ r.2.mem ((c.tc : Thread nD τ).loc main_v2_0) = codes2 (vIn m c)
      ∧ r.2.mem ((c.tc : Thread nD τ).loc main_v11) = scales2 (vIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨h0, h1, h2, h3, h4, h5, h6, h7⟩ := h c
    exact ⟨h0.trans (w5_y m ρ c), h1.trans (w5_codes16 m ρ c), h2.trans (w5_qscales m ρ c), h3.trans (w5_kcodes m ρ c), h4.trans (w5_kscales m ρ c),
      h5.trans (w5_vcodes m ρ c), h6.trans (w5_vscales m ρ c), h7⟩) (Cert.KernelRun.run_results m ρ)

end Cert.KVal
end
-- ==== Proof.RefRed.lean ====
/-
  What the reference's quantiser computes: the exponent that it writes as the floor of a base-2 logarithm, and the
  maximum over the last two axes of a rank-5 array. Every statement here is about arrays of any sizes.
-/
module

public import proofs.«01_k».proof.Proof.Quant
public import proofs.«01_k».proof.Proof.Gen.ReferenceIdeal.Value
public import Idealize.ShloMosaic.Lib.Pointwise

@[expose] public section

set_option maxRecDepth 16384

noncomputable section

namespace Cert.Ref

open Idealize.ShloMosaic Cert.ReferenceIdeal Cert.Expo Cert.Head Cert.Quant

section
variable {n0 n1 n2 n3 n4 : Nat}

/-- The indices that drop to `(a, b, c)` when the last two of five axes are reduced are the `(a, b, c, k, l)`. -/
theorem fiber34 (h : (⟨5, ![n0, n1, n2, n3, n4]⟩ : Shape).Reduces [3, 4] ⟨3, ![n0, n1, n2]⟩) (a : Fin n0) (b : Fin n1) (c : Fin n2)
    (i : (⟨5, ![n0, n1, n2, n3, n4]⟩ : Shape).Idx) : h.drop i = ix3 a b c ↔ ∃ k : Fin n3 × Fin n4, ix5 a b c k.1 k.2 = i := by
  constructor
  · intro e
    refine ⟨(i 3, i 4), ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨k, rfl⟩
    funext x
    apply Fin.ext
    match x with
    | ⟨0, _⟩ => rfl
    | ⟨1, _⟩ => rfl
    | ⟨2, _⟩ => rfl

/-- The maximum over the last two of five axes. -/
theorem max34 (h : (⟨5, ![n0, n1, n2, n3, n4]⟩ : Shape).Reduces [3, 4] ⟨3, ![n0, n1, n2]⟩) (v : FVec Ideal ⟨5, ![n0, n1, n2, n3, n4]⟩ .f32)
    (hφ : FKind.Formats .f32) (hacc : (0xFF800000#32 : BitVec FTy.f32.bits) = FKind.maximumf.neutral .f32 hφ) (a : Fin n0) (b : Fin n1) (c : Fin n2) :
    multiReduction .maximumf [3, 4] ⟨3, ![n0, n1, n2]⟩ v 0xFF800000#32 h hφ hacc (ix3 a b c)
      = Finset.univ.sup fun k : Fin n3 => Finset.univ.sup fun l : Fin n4 => (v (ix5 a b c k l) : EReal) := by
  rw [multiReduction_maximumf_eq_fold]
  refine (Finset.fold_filter_eq_fold_of_fiber _ _ (fun k : Fin n3 × Fin n4 => ix5 a b c k.1 k.2)
    (fun _ _ e => Prod.ext (congrFun e 3) (congrFun e 4)) (fiber34 h a b c) _ v).trans ?_
  show Finset.fold max (Ideal.ofBits FTy.f32 0xFF800000#32) _ _ = _
  rw [ofBits_ninf]
  show Finset.univ.sup (fun x : Fin n3 × Fin n4 => (v (ix5 a b c x.1 x.2) : EReal)) = _
  rw [← Finset.univ_product_univ, Finset.sup_product_left]
end

/-- The exponent as the reference writes it. -/
def rexp (a : EReal) : EReal := Scalar.select (Ideal.cmp .oeq a (Ideal.ofBits .f32 0x00000000#32))
  (Ideal.ofBits .f32 0x00000000#32) (min (Ideal.ofBits .f32 0x42FC0000#32) (max (Ideal.ofBits .f32 0xC2FC0000#32)
    (Ideal.liftRound Int.floor (Ideal.div (Ideal.log (a * c448)) (Ideal.log (Ideal.ofBits .f32 0x40000000#32))) + Ideal.ofBits .f32 0x3F800000#32)))

theorem ofBits_1 : Ideal.ofBits .f32 0x3F800000#32 = ((1 : ℝ) : EReal) := by
  simp [Ideal.ofBits, Ideal.ieee]; norm_cast; try norm_num

theorem div_log2 (x : EReal) : Ideal.div x (Real.log 2 : ℝ) = x * ((Real.log 2)⁻¹ : ℝ) := by
  have h : (0 : ℝ) < Real.log 2 := Real.log_pos (by norm_num)
  unfold Ideal.div
  rw [if_neg (by exact_mod_cast h.ne'), ← EReal.coe_inv]

/-- The reference's exponent is the kernel's. -/
theorem rexp_eq (a : EReal) (ha : 0 ≤ a) : rexp a = ((sexp (a * c448) : ℝ) : EReal) := by
  obtain ⟨c, hc, hc'⟩ := c448_real
  have h2 : (0 : ℝ) < Real.log 2 := Real.log_pos (by norm_num)
  have hl : Ideal.log ((2 : ℝ) : EReal) = (Real.log 2 : ℝ) := by
    show (if (2 : ℝ) ≤ 0 then (⊥ : EReal) else (Real.log 2 : ℝ)) = _
    rw [if_neg (by norm_num)]
  unfold rexp
  rw [ofBits_zero, ofBits_126, ofBits_n126, ofBits_2, ofBits_1, hl, div_log2]
  by_cases h0 : a = 0
  · subst h0
    rw [zero_mul]
    have e : sexp 0 = 0 := by unfold sexp; rw [if_pos rfl]
    rw [e]
    simp [Scalar.select, Ideal.cmp]
  · have hs : Scalar.select (Ideal.cmp .oeq a 0) (0 : EReal) = fun y => y := by
      funext y; simp [Scalar.select, Ideal.cmp, h0]
    rw [hs]
    dsimp only
    rw [hc']
    induction a with
    | bot => exact absurd ha (by simp)
    | top =>
      rw [EReal.top_mul_coe_of_pos hc, sexp_top]
      have e : Ideal.log ⊤ = ⊤ := rfl
      rw [e, EReal.top_mul_coe_of_pos (by positivity)]
      rw [Ideal.liftRound_top, EReal.top_add_coe, max_eq_right le_top, min_eq_left le_top]
      norm_num
    | coe r =>
      have hr : 0 < r := lt_of_le_of_ne (by exact_mod_cast ha) (fun e => h0 (by rw [← e]; rfl))
      have hrc : 0 < r * c := mul_pos hr hc
      rw [← EReal.coe_mul, sexp_coe hrc]
      have e : Ideal.log ((r * c : ℝ) : EReal) = (Real.log (r * c) : ℝ) := by
        show (if r * c ≤ 0 then (⊥ : EReal) else (Real.log (r * c) : ℝ)) = _
        rw [if_neg (not_le.mpr hrc)]
      rw [e, ← EReal.coe_mul, Ideal.liftRound_coe, ← div_eq_mul_inv, ← EReal.coe_add]
      have hm : ∀ x y : ℝ, max (x : EReal) y = ((max x y : ℝ) : EReal) := fun x y => by push_cast; rfl
      have hn : ∀ x y : ℝ, min (x : EReal) y = ((min x y : ℝ) : EReal) := fun x y => by push_cast; rfl
      rw [hm, hn]
      congr 1
      push_cast
      rcases le_total ((⌊Real.log (r * c) / Real.log 2⌋ : ℝ) + 1) 126 with h | h
      · rcases le_total ((⌊Real.log (r * c) / Real.log 2⌋ : ℝ) + 1) (-126) with g | g
        · rw [max_eq_left g, min_eq_right (by norm_num), min_eq_right h, max_eq_left g]
        · rw [max_eq_right g, min_eq_right h, max_eq_right g]
      · rw [max_eq_right (le_trans (by norm_num) h), min_eq_left h, max_eq_right (by norm_num)]

theorem exp2_int (z : ℤ) : Ideal.exp2 ((z : ℝ) : EReal) = pw z := by
  rw [exp2_coe]; unfold pw
  exact congrArg _ (Real.rpow_intCast 2 z)

/-- The reference's scale. -/
theorem exp2_rexp (a : EReal) (ha : 0 ≤ a) : Ideal.exp2 (rexp a) = pw (sexp (a * c448)) := by
  rw [rexp_eq a ha, exp2_int]
/-- One over the reference's scale. -/
theorem exp2_neg_rexp (a : EReal) (ha : 0 ≤ a) : Ideal.exp2 (0 - rexp a) = pw (-sexp (a * c448)) := by
  rw [rexp_eq a ha, zero_sub, ← exp2_int]
  push_cast; rfl

theorem abs_nonneg' (x : EReal) : 0 ≤ max x (-x) := by
  rcases le_total 0 x with h | h
  · exact le_max_of_le_left h
  · exact le_max_of_le_right (by rw [← neg_zero]; exact EReal.neg_le_neg_iff.mpr h)
theorem amax_nonneg (v : Fin 128 → Fin 256 → EReal) : 0 ≤ amax v :=
  le_trans (abs_nonneg' (v 0 0)) (le_trans (Finset.le_sup (f := fun d => max (v 0 d) (-(v 0 d))) (Finset.mem_univ 0))
    (Finset.le_sup (f := fun r => Finset.univ.sup fun d => max (v r d) (-(v r d))) (Finset.mem_univ 0)))

theorem sup_abs (f : Fin 128 → Fin 128 → EReal) (hf : ∀ r k, 0 ≤ f r k) : (Finset.univ.sup fun r => Finset.univ.sup fun k => max (f r k) (-(f r k))) = Finset.univ.sup fun r => Finset.univ.sup fun k => f r k := by
  refine Finset.sup_congr rfl fun r _ => Finset.sup_congr rfl fun k _ => max_eq_left ?_
  exact le_trans (by rw [← neg_zero]; exact EReal.neg_le_neg_iff.mpr (hf r k)) (hf r k)

/-! The quantiser's operations on arrays. -/
section
variable {s : Shape}
/-- The reference's exponents, from the logarithms. -/
def rexpL (a l l2 : FVec Ideal s .f32) : FVec Ideal s .f32 :=
  select (cmpf .oeq a (broadcast s (Scalar.ofBits .f32 0x00000000#32))) (broadcast s (Scalar.ofBits .f32 0x00000000#32))
    (minimumf (broadcast s (Scalar.ofBits .f32 0x42FC0000#32)) (maximumf (broadcast s (Scalar.ofBits .f32 0xC2FC0000#32))
      (addf (floor (divf l l2)) (broadcast s (Scalar.ofBits .f32 0x3F800000#32)))))
/-- The reference's exponents. -/
def rexpV (a : FVec Ideal s .f32) : FVec Ideal s .f32 :=
  rexpL a (log (mulf a (broadcast s (Scalar.ofBits .f32 0x3B124925#32)))) (log (broadcast s (Scalar.ofBits .f32 0x40000000#32)))
theorem rexpV_apply (a : FVec Ideal s .f32) (y : s.Idx) : rexpV a y = rexp (a y) := rfl
/-- The reference's scales and their reciprocals. -/
def rscV (e : FVec Ideal s .f32) : FVec Ideal s .f32 := exp2 e
theorem rscV_apply (e : FVec Ideal s .f32) (y : s.Idx) : rscV e y = Ideal.exp2 (e y) := rfl
def rinvV (e : FVec Ideal s .f32) : FVec Ideal s .f32 := exp2 (subf (broadcast s (Scalar.ofBits .f32 0x00000000#32)) e)
theorem rinvV_apply (e : FVec Ideal s .f32) (y : s.Idx) : rinvV e y = Ideal.exp2 (0 - e y) :=
  (show rinvV e y = Ideal.exp2 (Ideal.ofBits .f32 0x00000000#32 - e y) from rfl).trans (by rw [ofBits_zero])
/-- The reference's codes, of an array and the reciprocal of its scale. -/
def rcodV (z w : FVec Ideal s .f32) : FVec Ideal s .fp8e4m3 :=
  truncf .fp8e4m3 (minimumf (broadcast s (Scalar.ofBits .f32 0x43E00000#32)) (maximumf (broadcast s (Scalar.ofBits .f32 0xC3E00000#32)) (mulf z w))) (by decide)
theorem rcodV_apply (z w : FVec Ideal s .f32) (y : s.Idx) : rcodV z w y = clip ((z y : EReal) * w y) := rfl
theorem absf_apply (z : FVec Ideal s .f32) (y : s.Idx) : absf z y = max (z y : EReal) (-(z y : EReal)) := rfl
end

end Cert.Ref
end
-- ==== Proof.RefQ.lean ====
/-
  The reference's quantiser on the queries, the keys and the values: the codes and the scales that it stores are those of
  `Spec`.
-/
module

public import proofs.«01_k».proof.Proof.RefRed
public import proofs.«01_k».proof.Proof.Spec
import all proofs.«01_k».proof.Proof.Gen.ReferenceIdeal.Frame
public import proofs.«01_k».proof.Proof.Gen.ReferenceIdeal.Value

@[expose] public section

set_option maxRecDepth 16384

noncomputable section

namespace Cert.Ref

open Idealize.ShloMosaic Idealize.ShloMosaic.TcCoe Cert.ReferenceIdeal Cert.ReferenceIdeal.Gen Cert.Expo Cert.Head Cert.Quant Cert.Spec

/-! Sixteen heads. -/
theorem unkeep16 (e : FVec Ideal S8x16x32x1x1 .f32) (b : Fin 8) (h : Fin 16) (i : Fin 32) :
    shapeCast S8x16x32 e shapeCasts_S8x16x32x1x1_S8x16x32 (ix3 b h i) = e (ix5 b h i 0 0) := by
  pointwise []
theorem keep16 (e : FVec Ideal S8x16x32 .f32) (b : Fin 8) (h : Fin 16) (i : Fin 32) :
    shapeCast S8x16x32x1x1 e shapeCasts_S8x16x32_S8x16x32x1x1 (ix5 b h i 0 0) = e (ix3 b h i) := by
  pointwise []
theorem rows16 (e : FVec Ideal S8x16x32x128x256 .fp8e4m3) (b : Fin 8) (h : Fin 16) (i : Fin 32) (r : Fin 128) (d : Fin 256) :
    shapeCast S8x16x4096x256 e shapeCasts_S8x16x32x128x256_S8x16x4096x256 (ix4 b h (row i r) d) = e (ix5 b h i r d) := by
  pointwise [row]
theorem spread16 (e : FVec Ideal S8x16x32x1x1 .f32) (b : Fin 8) (h : Fin 16) (i : Fin 32) (r : Fin 128) (d : Fin 256) :
    broadcastTo S8x16x32x128x256 e broadcasts_S8x16x32x1x1_S8x16x32x128x256 (ix5 b h i r d) = e (ix5 b h i 0 0) := by
  pointwise []
theorem cut16 (x : FVec Ideal S8x4096x4096 .f32) (b : Fin 8) (h : Fin 16) (i : Fin 32) (r : Fin 128) (d : Fin 256) :
   transpose S8x16x32x128x256 [0, 3, 1, 2, 4] (shapeCast S8x32x128x16x256 x shapeCasts_S8x4096x4096_S8x32x128x16x256) transposes_S8x32x128x16x256_p0_3_1_2_4_S8x16x32x128x256 (ix5 b h i r d)
    = x (ix3 b (row i r) ⟨256 * h.val + d.val, by omega⟩) := by
  pointwise [row, mul_comm]

/-- The blocks of an array of 16 heads. -/
def blocks16 (x : FVec Ideal S8x4096x4096 .bf16) : FVec Ideal S8x16x32x128x256 .f32 :=
  transpose S8x16x32x128x256 [0, 3, 1, 2, 4] (shapeCast S8x32x128x16x256 (extf .f32 x bitsLt_bf16_f32) shapeCasts_S8x4096x4096_S8x32x128x16x256) transposes_S8x32x128x16x256_p0_3_1_2_4_S8x16x32x128x256
/-- The largest absolute values of the blocks. -/
def amaxs16 (z : FVec Ideal S8x16x32x128x256 .f32) : FVec Ideal S8x16x32x1x1 .f32 :=
  shapeCast S8x16x32x1x1 (multiReduction .maximumf [3, 4] S8x16x32 (absf z) 0xFF800000#32 reduces_S8x16x32x128x256_S8x16x32 (.inl rfl) rfl) shapeCasts_S8x16x32_S8x16x32x1x1
/-- The codes that the reference stores. -/
def rcodes16 (z : FVec Ideal S8x16x32x128x256 .f32) : FVec Ideal S8x16x4096x256 .fp8e4m3 :=
  shapeCast S8x16x4096x256 (rcodV z (broadcastTo S8x16x32x128x256 (rinvV (rexpV (amaxs16 z))) broadcasts_S8x16x32x1x1_S8x16x32x128x256)) shapeCasts_S8x16x32x128x256_S8x16x4096x256
/-- The scales that the reference stores. -/
def rscales16 (z : FVec Ideal S8x16x32x128x256 .f32) : FVec Ideal S8x16x32 .f32 :=
  shapeCast S8x16x32 (rscV (rexpV (amaxs16 z))) shapeCasts_S8x16x32x1x1_S8x16x32

theorem blocks16_apply (x : FVec Ideal S8x4096x4096 .bf16) (b : Fin 8) (h : Fin 16) (i : Fin 32) (r : Fin 128) (d : Fin 256) :
    blocks16 x (ix5 b h i r d) = xblk x b h i r d :=
  cut16 (extf .f32 x bitsLt_bf16_f32) b h i r d
theorem amaxs16_apply (z : FVec Ideal S8x16x32x128x256 .f32) (b : Fin 8) (h : Fin 16) (i : Fin 32) :
    amaxs16 z (ix5 b h i 0 0) = amax fun r d => z (ix5 b h i r d) :=
  (keep16 _ b h i).trans (max34 _ (absf z) _ _ b h i)
theorem rcodes16_apply (z : FVec Ideal S8x16x32x128x256 .f32) (b : Fin 8) (h : Fin 16) (i : Fin 32) (r : Fin 128) (d : Fin 256) :
    rcodes16 z (ix4 b h (row i r) d) = qcode (fun r d => z (ix5 b h i r d)) r d := by
  refine (rows16 _ b h i r d).trans ((rcodV_apply _ _ _).trans ?_)
  unfold qcode qexp
  rw [spread16, rinvV_apply, rexpV_apply, amaxs16_apply, exp2_neg_rexp _ (amax_nonneg _)]
theorem rscales16_apply (z : FVec Ideal S8x16x32x128x256 .f32) (b : Fin 8) (h : Fin 16) (i : Fin 32) :
    rscales16 z (ix3 b h i) = pw (qexp fun r d => z (ix5 b h i r d)) := by
  refine (unkeep16 _ b h i).trans ((rscV_apply _ _).trans ?_)
  unfold qexp
  rw [rexpV_apply, amaxs16_apply, exp2_rexp _ (amax_nonneg _)]

theorem rcodes16_row (x : FVec Ideal S8x4096x4096 .bf16) (b : Fin 8) (h : Fin 16) (i : Fin 32) (r : Fin 128) (d : Fin 256) :
    rcodes16 (blocks16 x) (ix4 b h (row i r) d) = qcode (xblk x b h i) r d := by
  rw [rcodes16_apply, show (fun r d => blocks16 x (ix5 b h i r d)) = xblk x b h i from funext fun r => funext fun d => blocks16_apply x b h i r d]
theorem rscales16_blk (x : FVec Ideal S8x4096x4096 .bf16) (b : Fin 8) (h : Fin 16) (i : Fin 32) :
    rscales16 (blocks16 x) (ix3 b h i) = pw (qexp (xblk x b h i)) := by
  rw [rscales16_apply, show (fun r d => blocks16 x (ix5 b h i r d)) = xblk x b h i from funext fun r => funext fun d => blocks16_apply x b h i r d]
/-- The reference's codes are those of `Spec`. -/
theorem rcodes16_eq (x : FVec Ideal S8x4096x4096 .bf16) : rcodes16 (blocks16 x) = codes16 x := by
  refine funext fun (y : S8x16x4096x256.Idx) => ?_
  have hy : y = ix4 (y 0) (y 1) (row (rowBlk (y 2)) (rowPos (y 2))) (y 3) := by
    ext a
    match a with
    | 0 => rfl
    | 1 => rfl
    | 2 => show (y 2).val = 128 * ((y 2).val / 128) + (y 2).val % 128; omega
    | 3 => rfl
  rw [hy]
  exact (rcodes16_row x (y 0) (y 1) (rowBlk (y 2)) (rowPos (y 2)) (y 3)).trans (codes16_row x (y 0) (y 1) (rowBlk (y 2)) (rowPos (y 2)) (y 3)).symm
/-- The reference's scales are those of `Spec`. -/
theorem rscales16_eq (x : FVec Ideal S8x4096x4096 .bf16) : rscales16 (blocks16 x) = scales16 x := by
  refine funext fun (y : S8x16x32.Idx) => ?_
  rw [eq_ix3 y]
  exact rscales16_blk x (y 0) (y 1) (y 2)

/-! Two heads. -/
theorem unkeep2 (e : FVec Ideal S8x2x32x1x1 .f32) (b : Fin 8) (h : Fin 2) (i : Fin 32) :
    shapeCast S8x2x32 e shapeCasts_S8x2x32x1x1_S8x2x32 (ix3 b h i) = e (ix5 b h i 0 0) := by
  pointwise []
theorem keep2 (e : FVec Ideal S8x2x32 .f32) (b : Fin 8) (h : Fin 2) (i : Fin 32) :
    shapeCast S8x2x32x1x1 e shapeCasts_S8x2x32_S8x2x32x1x1 (ix5 b h i 0 0) = e (ix3 b h i) := by
  pointwise []
theorem rows2 (e : FVec Ideal S8x2x32x128x256 .fp8e4m3) (b : Fin 8) (h : Fin 2) (i : Fin 32) (r : Fin 128) (d : Fin 256) :
    shapeCast S8x2x4096x256 e shapeCasts_S8x2x32x128x256_S8x2x4096x256 (ix4 b h (row i r) d) = e (ix5 b h i r d) := by
  pointwise [row]
theorem spread2 (e : FVec Ideal S8x2x32x1x1 .f32) (b : Fin 8) (h : Fin 2) (i : Fin 32) (r : Fin 128) (d : Fin 256) :
    broadcastTo S8x2x32x128x256 e broadcasts_S8x2x32x1x1_S8x2x32x128x256 (ix5 b h i r d) = e (ix5 b h i 0 0) := by
  pointwise []
theorem cut2 (x : FVec Ideal S8x4096x512 .f32) (b : Fin 8) (h : Fin 2) (i : Fin 32) (r : Fin 128) (d : Fin 256) :
   transpose S8x2x32x128x256 [0, 3, 1, 2, 4] (shapeCast S8x32x128x2x256 x shapeCasts_S8x4096x512_S8x32x128x2x256) transposes_S8x32x128x2x256_p0_3_1_2_4_S8x2x32x128x256 (ix5 b h i r d)
    = x (ix3 b (row i r) ⟨256 * h.val + d.val, by omega⟩) := by
  pointwise [row, mul_comm]

/-- The blocks of an array of 2 heads. -/
def blocks2 (x : FVec Ideal S8x4096x512 .bf16) : FVec Ideal S8x2x32x128x256 .f32 :=
  transpose S8x2x32x128x256 [0, 3, 1, 2, 4] (shapeCast S8x32x128x2x256 (extf .f32 x bitsLt_bf16_f32) shapeCasts_S8x4096x512_S8x32x128x2x256) transposes_S8x32x128x2x256_p0_3_1_2_4_S8x2x32x128x256
/-- The largest absolute values of the blocks. -/
def amaxs2 (z : FVec Ideal S8x2x32x128x256 .f32) : FVec Ideal S8x2x32x1x1 .f32 :=
  shapeCast S8x2x32x1x1 (multiReduction .maximumf [3, 4] S8x2x32 (absf z) 0xFF800000#32 reduces_S8x2x32x128x256_S8x2x32 (.inl rfl) rfl) shapeCasts_S8x2x32_S8x2x32x1x1
/-- The codes that the reference stores. -/
def rcodes2 (z : FVec Ideal S8x2x32x128x256 .f32) : FVec Ideal S8x2x4096x256 .fp8e4m3 :=
  shapeCast S8x2x4096x256 (rcodV z (broadcastTo S8x2x32x128x256 (rinvV (rexpV (amaxs2 z))) broadcasts_S8x2x32x1x1_S8x2x32x128x256)) shapeCasts_S8x2x32x128x256_S8x2x4096x256
/-- The scales that the reference stores. -/
def rscales2 (z : FVec Ideal S8x2x32x128x256 .f32) : FVec Ideal S8x2x32 .f32 :=
  shapeCast S8x2x32 (rscV (rexpV (amaxs2 z))) shapeCasts_S8x2x32x1x1_S8x2x32

theorem blocks2_apply (x : FVec Ideal S8x4096x512 .bf16) (b : Fin 8) (h : Fin 2) (i : Fin 32) (r : Fin 128) (d : Fin 256) :
    blocks2 x (ix5 b h i r d) = kblk x b h i r d :=
  cut2 (extf .f32 x bitsLt_bf16_f32) b h i r d
theorem amaxs2_apply (z : FVec Ideal S8x2x32x128x256 .f32) (b : Fin 8) (h : Fin 2) (i : Fin 32) :
    amaxs2 z (ix5 b h i 0 0) = amax fun r d => z (ix5 b h i r d) :=
  (keep2 _ b h i).trans (max34 _ (absf z) _ _ b h i)
theorem rcodes2_apply (z : FVec Ideal S8x2x32x128x256 .f32) (b : Fin 8) (h : Fin 2) (i : Fin 32) (r : Fin 128) (d : Fin 256) :
    rcodes2 z (ix4 b h (row i r) d) = qcode (fun r d => z (ix5 b h i r d)) r d := by
  refine (rows2 _ b h i r d).trans ((rcodV_apply _ _ _).trans ?_)
  unfold qcode qexp
  rw [spread2, rinvV_apply, rexpV_apply, amaxs2_apply, exp2_neg_rexp _ (amax_nonneg _)]
theorem rscales2_apply (z : FVec Ideal S8x2x32x128x256 .f32) (b : Fin 8) (h : Fin 2) (i : Fin 32) :
    rscales2 z (ix3 b h i) = pw (qexp fun r d => z (ix5 b h i r d)) := by
  refine (unkeep2 _ b h i).trans ((rscV_apply _ _).trans ?_)
  unfold qexp
  rw [rexpV_apply, amaxs2_apply, exp2_rexp _ (amax_nonneg _)]

theorem rcodes2_row (x : FVec Ideal S8x4096x512 .bf16) (b : Fin 8) (h : Fin 2) (i : Fin 32) (r : Fin 128) (d : Fin 256) :
    rcodes2 (blocks2 x) (ix4 b h (row i r) d) = qcode (kblk x b h i) r d := by
  rw [rcodes2_apply, show (fun r d => blocks2 x (ix5 b h i r d)) = kblk x b h i from funext fun r => funext fun d => blocks2_apply x b h i r d]
theorem rscales2_blk (x : FVec Ideal S8x4096x512 .bf16) (b : Fin 8) (h : Fin 2) (i : Fin 32) :
    rscales2 (blocks2 x) (ix3 b h i) = pw (qexp (kblk x b h i)) := by
  rw [rscales2_apply, show (fun r d => blocks2 x (ix5 b h i r d)) = kblk x b h i from funext fun r => funext fun d => blocks2_apply x b h i r d]
/-- The reference's codes are those of `Spec`. -/
theorem rcodes2_eq (x : FVec Ideal S8x4096x512 .bf16) : rcodes2 (blocks2 x) = codes2 x := by
  refine funext fun (y : S8x2x4096x256.Idx) => ?_
  have hy : y = ix4 (y 0) (y 1) (row (rowBlk (y 2)) (rowPos (y 2))) (y 3) := by
    ext a
    match a with
    | 0 => rfl
    | 1 => rfl
    | 2 => show (y 2).val = 128 * ((y 2).val / 128) + (y 2).val % 128; omega
    | 3 => rfl
  rw [hy]
  exact (rcodes2_row x (y 0) (y 1) (rowBlk (y 2)) (rowPos (y 2)) (y 3)).trans (codes2_row x (y 0) (y 1) (rowBlk (y 2)) (rowPos (y 2)) (y 3)).symm
/-- The reference's scales are those of `Spec`. -/
theorem rscales2_eq (x : FVec Ideal S8x4096x512 .bf16) : rscales2 (blocks2 x) = scales2 x := by
  refine funext fun (y : S8x2x32.Idx) => ?_
  rw [eq_ix3 y]
  exact rscales2_blk x (y 0) (y 1) (y 2)

/-! What the reference stores. -/
theorem pay19_eq (x : Vec Ideal S8x4096x4096 .bf16) : k0_pay19 x = rcodes16 (blocks16 x) := rfl
theorem pay20_eq (x : Vec Ideal S8x4096x4096 .bf16) : k0_pay20 x = rscales16 (blocks16 x) := rfl
theorem pay24_eq (x : Vec Ideal S8x4096x512 .bf16) : k0_pay24 (k0_pay21 x) (k0_pay22 x) = rcodes2 (blocks2 x) := rfl
theorem pay25_eq (x : Vec Ideal S8x4096x512 .bf16) : k0_pay25 (k0_pay22 x) = rscales2 (blocks2 x) := rfl
theorem pay31_eq (x : Vec Ideal S8x4096x512 .bf16) : k0_pay31 (k0_pay26 x) (k0_pay27 x) (k0_pay28 x) k0_pay29 = rcodes2 (blocks2 x) := rfl
theorem pay32_eq (x : Vec Ideal S8x4096x512 .bf16) : k0_pay32 (k0_pay27 x) (k0_pay28 x) k0_pay29 = rscales2 (blocks2 x) := rfl
end Cert.Ref
end
-- ==== Proof.RefPay.lean ====
/-
  The array expressions of one step of the reference's attention, each at an index: the products of the codes, the mask,
  the maxima, the weights, their sums, their quantisation and the accumulator.
-/
module

public import proofs.«01_k».proof.Proof.RefQ

@[expose] public section

set_option maxRecDepth 16384

noncomputable section

namespace Cert.Ref

open Idealize.ShloMosaic Idealize.ShloMosaic.TcCoe Cert.ReferenceIdeal Cert.ReferenceIdeal.Gen Cert.Expo Cert.Head Cert.Quant Cert.Spec

/-- A batch entry and a key head as one index. -/
def grp (b : Fin 8) (g : Fin 2) : Fin 16 := ⟨2 * b.val + g.val, by omega⟩
/-- A head of a group, a block and a position as one row. -/
def hrow (h : Fin 8) (i : Fin 32) (q : Fin 128) : Fin 32768 := ⟨4096 * h.val + 128 * i.val + q.val, by omega⟩
/-- The query head of a key head and its place in the group. -/
def qh (g : Fin 2) (h : Fin 8) : Fin 16 := ⟨8 * g.val + h.val, by omega⟩

/-! Shapes. -/
section
variable (b : Fin 8) (g : Fin 2) (n : Fin 16) (h : Fin 8) (i : Fin 32) (q k : Fin 128) (d : Fin 256)

theorem qv_apply (v : FVec Ideal S8x16x4096x256 .fp8e4m3) :
    shapeCast S16x32768x256 v shapeCasts_S8x16x4096x256_S16x32768x256 (ix3 (grp b g) (hrow h i q) d) = v (ix4 b (qh g h) (row i q) d) := by
  pointwise [grp, hrow, qh, row]
  exact congrArg₂ (fun x y => v (ix4 b x y d)) (Fin.ext (by dsimp only; omega)) (Fin.ext (by dsimp only; omega))
theorem qs_apply (v : FVec Ideal S8x16x32 .f32) :
    shapeCast S16x8x32 v shapeCasts_S8x16x32_S16x8x32 (ix3 (grp b g) h i) = v (ix3 b (qh g h) i) := by
  pointwise [grp, qh]
  exact congrArg (fun x => v (ix3 b x i)) (Fin.ext (by dsimp only; omega))
theorem keep3 (v : FVec Ideal S16x8x32 .f32) :
    shapeCast S16x8x32x1x1 v shapeCasts_S16x8x32_S16x8x32x1x1 (ix5 n h i 0 0) = v (ix3 n h i) := by
  pointwise []
theorem kself (v : FVec Ideal S8x2x128x256 .fp8e4m3) :
    shapeCast S8x2x128x256 v shapeCasts_S8x2x128x256_S8x2x128x256 (ix4 b g k d) = v (ix4 b g k d) := by
  pointwise []
theorem kv_apply (v : FVec Ideal S8x2x128x256 .fp8e4m3) :
    shapeCast S16x128x256 v shapeCasts_S8x2x128x256_S16x128x256 (ix3 (grp b g) k d) = v (ix4 b g k d) := by
  pointwise [grp]
theorem sself (v : FVec Ideal S8x2x1 .f32) :
    shapeCast S8x2x1 v shapeCasts_S8x2x1_S8x2x1 (ix3 b g 0) = v (ix3 b g 0) := by
  pointwise []
theorem sv_apply (v : FVec Ideal S8x2x1 .f32) :
    shapeCast S16x1x1x1x1 v shapeCasts_S8x2x1_S16x1x1x1x1 (ix5 (grp b g) 0 0 0 0) = v (ix3 b g 0) := by
  pointwise [grp]
theorem sspread (v : FVec Ideal S16x1x1x1x1 .f32) :
    broadcastTo S16x8x32x1x1 v broadcasts_S16x1x1x1x1_S16x8x32x1x1 (ix5 n h i 0 0) = v (ix5 n 0 0 0 0) := by
  pointwise []
theorem spreadK (v : FVec Ideal S16x8x32x1x1 .f32) :
    broadcastTo S16x8x32x128x128 v broadcasts_S16x8x32x1x1_S16x8x32x128x128 (ix5 n h i q k) = v (ix5 n h i 0 0) := by
  pointwise []
theorem spreadD (v : FVec Ideal S16x8x32x1x1 .f32) :
    broadcastTo S16x8x32x128x256 v broadcasts_S16x8x32x1x1_S16x8x32x128x256 (ix5 n h i q d) = v (ix5 n h i 0 0) := by
  pointwise []
theorem keep4 (v : FVec Ideal S16x8x32x128 .f32) :
    shapeCast S16x8x32x128x1 v shapeCasts_S16x8x32x128_S16x8x32x128x1 (ix5 n h i q 0) = v (ix4 n h i q) := by
  pointwise []
theorem rowK (v : FVec Ideal S16x8x32x128x1 .f32) :
    broadcastTo S16x8x32x128x128 v broadcasts_S16x8x32x128x1_S16x8x32x128x128 (ix5 n h i q k) = v (ix5 n h i q 0) := by
  pointwise []
theorem rowD (v : FVec Ideal S16x8x32x128x1 .f32) :
    broadcastTo S16x8x32x128x256 v broadcasts_S16x8x32x128x1_S16x8x32x128x256 (ix5 n h i q d) = v (ix5 n h i q 0) := by
  pointwise []
theorem headsK (v : FVec Ideal S16x32768x128 .f32) :
    shapeCast S16x8x32x128x128 v shapeCasts_S16x32768x128_S16x8x32x128x128 (ix5 n h i q k) = v (ix3 n (hrow h i q) k) := by
  pointwise [hrow]
  exact congrArg (fun x => v (ix3 n x k)) (Fin.ext (by dsimp only; omega))
theorem headsD (v : FVec Ideal S16x32768x256 .f32) :
    shapeCast S16x8x32x128x256 v shapeCasts_S16x32768x256_S16x8x32x128x256 (ix5 n h i q d) = v (ix3 n (hrow h i q) d) := by
  pointwise [hrow]
  exact congrArg (fun x => v (ix3 n x d)) (Fin.ext (by dsimp only; omega))
theorem rowsK (v : FVec Ideal S16x8x32x128x128 .fp8e4m3) :
    shapeCast S16x32768x128 v shapeCasts_S16x8x32x128x128_S16x32768x128 (ix3 n (hrow h i q) k) = v (ix5 n h i q k) := by
  pointwise [hrow]
/-- The product of the queries' codes and the keys' codes. -/
theorem mmK (x : FVec Ideal S16x32768x256 .fp8e4m3) (y : FVec Ideal S16x128x256 .fp8e4m3) (r : Fin 32768) :
    matmul dot_S16x32768x256_S16x128x256_S16x32768x128_2_2_1_1_0_0 none x y (constant (F := Ideal) S16x32768x128 .f32 0x00000000#32) (ix3 n r k)
      = ∑ d : Fin 256, x (ix3 n r d) * y (ix3 n k d) := by
  pointwise []
/-- The product of the weights' codes and the values' codes. -/
theorem mmD (x : FVec Ideal S16x32768x128 .fp8e4m3) (y : FVec Ideal S16x128x256 .fp8e4m3) (r : Fin 32768) :
    matmul dot_S16x32768x128_S16x128x256_S16x32768x256_2_1_1_2_0_0 none x y (constant (F := Ideal) S16x32768x256 .f32 0x00000000#32) (ix3 n r d)
      = ∑ k : Fin 128, x (ix3 n r k) * y (ix3 n k d) := by
  pointwise []
/-- The largest score of a query. -/
theorem max4 (v : FVec Ideal S16x8x32x128x128 .f32) :
    multiReduction .maximumf [4] S16x8x32x128 v 0xFF800000#32 reduces_S16x8x32x128x128_S16x8x32x128 (.inl rfl) rfl (ix4 n h i q)
      = Finset.univ.fold max ⊥ fun k : Fin 128 => (v (ix5 n h i q k) : EReal) := by
  pointwise []
  rw [ofBits_ninf]
/-- The sum of a query's weights. -/
theorem sum4 (v : FVec Ideal S16x8x32x128x128 .f32) :
    multiReduction .add [4] S16x8x32x128 v 0x00000000#32 reduces_S16x8x32x128x128_S16x8x32x128 (.inl rfl) rfl (ix4 n h i q)
      = ∑ k : Fin 128, (v (ix5 n h i q k) : EReal) := by
  pointwise []
end

/-! The mask. -/
/-- Words below `2 ^ 31` compare as numbers. -/
theorem sle_ofNat (x y : Nat) (hx : x < 4096) (hy : y < 4096) : IntOp.cmpi .sle (BitVec.ofNat 32 x) (BitVec.ofNat 32 y) = BitVec.ofBool (decide (x ≤ y)) := by
  show BitVec.ofBool ((BitVec.ofNat 32 x).sle (BitVec.ofNat 32 y)) = _
  congr 1
  rw [BitVec.sle_eq_decide]
  congr 1
  rw [BitVec.toInt_ofNat', BitVec.toInt_ofNat']
  simp only [Int.bmod]
  refine propext ⟨fun h => ?_, fun h => ?_⟩ <;> omega
/-- Which scores the mask of trip `j` keeps. -/
def keepV (j : Nat) (a b : IVec S16x8x32x128x128 32) : IVec S16x8x32x128x128 1 :=
  cmpi .sle (addi (broadcast S16x8x32x128x128 (Scalar.muli (Scf.iv 0#32 1#32 j) 128#32)) a) b
/-- The position of a key in its block. -/
def keyPos : IVec S16x8x32x128x128 32 := iota .tc S16x8x32x128x128 32 [4] iota_S16x8x32x128x128_d4_w32
theorem keyPos_apply (n : Fin 16) (h : Fin 8) (i : Fin 32) (q k : Fin 128) : keyPos (ix5 n h i q k) = BitVec.ofNat 32 k.val := by
  pointwise [keyPos]
theorem blkPos_apply (n : Fin 16) (h : Fin 8) (i : Fin 32) (q k : Fin 128) :
    iota .tc S16x8x32x128x128 32 [2] iota_S16x8x32x128x128_d2_w32 (ix5 n h i q k) = BitVec.ofNat 32 i.val := by
  pointwise []
theorem inPos_apply (n : Fin 16) (h : Fin 8) (i : Fin 32) (q k : Fin 128) :
    iota .tc S16x8x32x128x128 32 [3] iota_S16x8x32x128x128_d3_w32 (ix5 n h i q k) = BitVec.ofNat 32 q.val := by
  pointwise []
/-- The position of a query. -/
theorem qPos_apply (n : Fin 16) (h : Fin 8) (i : Fin 32) (q k : Fin 128) : k0_pay3 (ix5 n h i q k) = BitVec.ofNat 32 (row i q).val := by
  have e : k0_pay3 (ix5 n h i q k) = iota .tc S16x8x32x128x128 32 [2] iota_S16x8x32x128x128_d2_w32 (ix5 n h i q k) * 128#32
      + iota .tc S16x8x32x128x128 32 [3] iota_S16x8x32x128x128_d3_w32 (ix5 n h i q k) := rfl
  rw [e, blkPos_apply, inPos_apply]
  unfold row
  apply BitVec.eq_of_toNat_eq
  simp only [BitVec.toNat_add, BitVec.toNat_mul, BitVec.toNat_ofNat]
  omega
theorem keepV_apply (j : Fin 32) (n : Fin 16) (h : Fin 8) (i : Fin 32) (q k : Fin 128) :
    keepV j.val keyPos k0_pay3 (ix5 n h i q k) = BitVec.ofBool (decide ((row j k).val ≤ (row i q).val)) := by
  have e : keepV j.val keyPos k0_pay3 (ix5 n h i q k)
      = IntOp.cmpi .sle ((0#32 + BitVec.ofNat 32 j.val * 1#32) * 128#32 + keyPos (ix5 n h i q k)) (k0_pay3 (ix5 n h i q k)) := rfl
  have e2 : (0#32 + BitVec.ofNat 32 j.val * 1#32) * 128#32 + BitVec.ofNat 32 k.val = BitVec.ofNat 32 (row j k).val := by
    unfold row
    apply BitVec.eq_of_toNat_eq
    simp only [BitVec.toNat_add, BitVec.toNat_mul, BitVec.toNat_ofNat]
    omega
  rw [e, keyPos_apply, qPos_apply, e2, sle_ofNat _ _ (row j k).isLt (row i q).isLt]

/-! Array operations at an index. -/
section
variable {s : Shape}
theorem mulf_at (x y : FVec Ideal s .f32) (z : s.Idx) : mulf x y z = (x z : EReal) * y z := rfl
theorem addf_at (x y : FVec Ideal s .f32) (z : s.Idx) : addf x y z = (x z : EReal) + y z := rfl
theorem subf_at (x y : FVec Ideal s .f32) (z : s.Idx) : subf x y z = (x z : EReal) - y z := rfl
theorem divf_at (x y : FVec Ideal s .f32) (z : s.Idx) : divf x y z = Ideal.div (x z : EReal) (y z) := rfl
theorem exp_at (x : FVec Ideal s .f32) (z : s.Idx) : exp x z = Ideal.exp (x z) := rfl
theorem max_at (x y : FVec Ideal s .f32) (z : s.Idx) : maximumf x y z = max (x z : EReal) (y z) := rfl
theorem select_at (c : IVec s 1) (x y : FVec Ideal s .f32) (z : s.Idx) : select c x y z = Scalar.select (c z) (x z) (y z) := rfl
theorem const_at (w : BitVec FTy.f32.bits) (z : s.Idx) : (broadcast s (Scalar.ofBits (F := Ideal) .f32 w) : FVec Ideal s .f32) z = Ideal.ofBits .f32 w := rfl
end

/-! The step. -/
section
variable (qc : FVec Ideal S16x32768x256 .fp8e4m3) (qs : FVec Ideal S16x8x32x1x1 .f32) (kc vc : FVec Ideal S16x128x256 .fp8e4m3) (ks vs : FVec Ideal S16x1x1x1x1 .f32)
  (keep : IVec S16x8x32x128x128 1) (m l al M : FVec Ideal S16x8x32x128 .f32) (T P : FVec Ideal S16x8x32x128x128 .f32) (a : FVec Ideal S16x8x32x128x256 .f32)

/-- The masked scores. -/
def scoresV : FVec Ideal S16x8x32x128x128 .f32 :=
  select keep (mulf (mulf (shapeCast S16x8x32x128x128 (matmul dot_S16x32768x256_S16x128x256_S16x32768x128_2_2_1_1_0_0 none qc kc (constant (F := Ideal) S16x32768x128 .f32 0x00000000#32)) shapeCasts_S16x32768x128_S16x8x32x128x128)
    (broadcastTo S16x8x32x128x128 (mulf qs (broadcastTo S16x8x32x1x1 ks broadcasts_S16x1x1x1x1_S16x8x32x1x1)) broadcasts_S16x8x32x1x1_S16x8x32x128x128))
    (broadcast S16x8x32x128x128 (Scalar.ofBits .f32 0x3D800000#32))) (broadcast S16x8x32x128x128 (Scalar.ofBits .f32 0xFF800000#32))
/-- The new maxima. -/
def maxV : FVec Ideal S16x8x32x128 .f32 :=
  maximumf m (multiReduction .maximumf [4] S16x8x32x128 T 0xFF800000#32 reduces_S16x8x32x128x128_S16x8x32x128 (.inl rfl) rfl)
/-- The factors of what was carried. -/
def alV : FVec Ideal S16x8x32x128 .f32 := exp (subf m M)
/-- The weights. -/
def weightV : FVec Ideal S16x8x32x128x128 .f32 :=
  exp (subf T (broadcastTo S16x8x32x128x128 (shapeCast S16x8x32x128x1 M shapeCasts_S16x8x32x128_S16x8x32x128x1) broadcasts_S16x8x32x128x1_S16x8x32x128x128))
/-- The new sums. -/
def sumV : FVec Ideal S16x8x32x128 .f32 :=
  addf (mulf al l) (multiReduction .add [4] S16x8x32x128 P 0x00000000#32 reduces_S16x8x32x128x128_S16x8x32x128 (.inl rfl) rfl)
/-- The largest weights of the blocks. -/
def pmaxV : FVec Ideal S16x8x32x1x1 .f32 :=
  shapeCast S16x8x32x1x1 (multiReduction .maximumf [3, 4] S16x8x32 (absf P) 0xFF800000#32 reduces_S16x8x32x128x128_S16x8x32 (.inl rfl) rfl) shapeCasts_S16x8x32_S16x8x32x1x1
/-- The codes of the weights. -/
def pcodeV : FVec Ideal S16x8x32x128x128 .fp8e4m3 :=
  rcodV P (broadcastTo S16x8x32x128x128 (rinvV (rexpV (pmaxV P))) broadcasts_S16x8x32x1x1_S16x8x32x128x128)
/-- The new accumulator. -/
def accV : FVec Ideal S16x8x32x128x256 .f32 :=
  addf (mulf (broadcastTo S16x8x32x128x256 (shapeCast S16x8x32x128x1 al shapeCasts_S16x8x32x128_S16x8x32x128x1) broadcasts_S16x8x32x128x1_S16x8x32x128x256) a)
    (mulf (shapeCast S16x8x32x128x256 (matmul dot_S16x32768x128_S16x128x256_S16x32768x256_2_1_1_2_0_0 none (shapeCast S16x32768x128 (pcodeV P) shapeCasts_S16x8x32x128x128_S16x32768x128) vc (constant (F := Ideal) S16x32768x256 .f32 0x00000000#32)) shapeCasts_S16x32768x256_S16x8x32x128x256)
      (broadcastTo S16x8x32x128x256 (mulf (rscV (rexpV (pmaxV P))) (broadcastTo S16x8x32x1x1 vs broadcasts_S16x1x1x1x1_S16x8x32x1x1)) broadcasts_S16x8x32x1x1_S16x8x32x128x256))

variable (b : Fin 8) (g : Fin 2) (n : Fin 16) (h : Fin 8) (i : Fin 32) (q k : Fin 128) (d : Fin 256)

theorem scoresV_apply : scoresV qc qs kc ks keep (ix5 n h i q k) = Scalar.select (keep (ix5 n h i q k))
    ((∑ d : Fin 256, qc (ix3 n (hrow h i q) d) * kc (ix3 n k d)) * ((qs (ix5 n h i 0 0) : EReal) * ks (ix5 n 0 0 0 0)) * Ideal.ofBits .f32 0x3D800000#32) ⊥ := by
  unfold scoresV
  rw [select_at, mulf_at, mulf_at, const_at, const_at, headsK, mmK, spreadK, ofBits_ninf, mulf_at, sspread]
theorem maxV_apply : maxV m T (ix4 n h i q) = max (m (ix4 n h i q) : EReal) (Finset.univ.fold max ⊥ fun k : Fin 128 => (T (ix5 n h i q k) : EReal)) := by
  unfold maxV
  rw [max_at, max4]
theorem alV_apply : alV m M (ix4 n h i q) = Ideal.exp ((m (ix4 n h i q) : EReal) - M (ix4 n h i q)) := by
  unfold alV
  rw [exp_at, subf_at]
theorem weightV_apply : weightV M T (ix5 n h i q k) = Ideal.exp ((T (ix5 n h i q k) : EReal) - M (ix4 n h i q)) := by
  unfold weightV
  rw [exp_at, subf_at, rowK, keep4]
theorem sumV_apply : sumV l al P (ix4 n h i q) = (al (ix4 n h i q) : EReal) * l (ix4 n h i q) + ∑ k : Fin 128, (P (ix5 n h i q k) : EReal) := by
  unfold sumV
  rw [addf_at, mulf_at, sum4]
theorem pmaxV_apply (hP : ∀ q k, 0 ≤ (P (ix5 n h i q k) : EReal)) :
    pmaxV P (ix5 n h i 0 0) = Finset.univ.sup fun q : Fin 128 => Finset.univ.sup fun k : Fin 128 => (P (ix5 n h i q k) : EReal) :=
  (keep3 n h i _).trans ((max34 _ (absf P) _ _ n h i).trans (sup_abs (fun q k => (P (ix5 n h i q k) : EReal)) hP))
theorem psup_nonneg (f : Fin 128 → Fin 128 → EReal) (hf : ∀ q k, 0 ≤ f q k) : 0 ≤ Finset.univ.sup fun q : Fin 128 => Finset.univ.sup fun k : Fin 128 => f q k :=
  le_trans (hf 0 0) (le_trans (Finset.le_sup (f := fun k => f 0 k) (Finset.mem_univ 0)) (Finset.le_sup (f := fun q => Finset.univ.sup fun k => f q k) (Finset.mem_univ 0)))
theorem pcodeV_apply (hP : ∀ q k, 0 ≤ (P (ix5 n h i q k) : EReal)) : pcodeV P (ix5 n h i q k)
    = clip ((P (ix5 n h i q k) : EReal) * pw (-sexp ((Finset.univ.sup fun q : Fin 128 => Finset.univ.sup fun k : Fin 128 => (P (ix5 n h i q k) : EReal)) * c448))) := by
  refine (rcodV_apply _ _ _).trans ?_
  rw [spreadK, rinvV_apply, rexpV_apply, pmaxV_apply P n h i hP, exp2_neg_rexp _ (psup_nonneg _ hP)]
theorem accV_apply (hP : ∀ q k, 0 ≤ (P (ix5 n h i q k) : EReal)) : accV vc vs al P a (ix5 n h i q d)
    = (al (ix4 n h i q) : EReal) * a (ix5 n h i q d)
      + (∑ k : Fin 128, clip ((P (ix5 n h i q k) : EReal) * pw (-sexp ((Finset.univ.sup fun q : Fin 128 => Finset.univ.sup fun k : Fin 128 => (P (ix5 n h i q k) : EReal)) * c448))) * vc (ix3 n k d))
        * (pw (sexp ((Finset.univ.sup fun q : Fin 128 => Finset.univ.sup fun k : Fin 128 => (P (ix5 n h i q k) : EReal)) * c448)) * (vs (ix5 n 0 0 0 0) : EReal)) := by
  unfold accV
  rw [addf_at, mulf_at, mulf_at, rowD, keep4, headsD, mmD, spreadD, mulf_at, rscV_apply, rexpV_apply, sspread, pmaxV_apply P n h i hP, exp2_rexp _ (psup_nonneg _ hP)]
  simp only [rowsK, pcodeV_apply P n h i _ _ hP]
end
end Cert.Ref
end
-- ==== Proof.RefStep.lean ====
/-
  One step of the reference's attention, on whole arrays, is `rstep` of `Proof/Head.lean` at every batch entry, head and
  block of queries.
-/
module

public import proofs.«01_k».proof.Proof.RefPay
public import proofs.«01_k».proof.Proof.Data
public import proofs.«01_k».proof.Proof.Sim

@[expose] public section

set_option maxRecDepth 16384

noncomputable section

namespace Cert.Ref

open Idealize.ShloMosaic Idealize.ShloMosaic.TcCoe Cert.ReferenceIdeal Cert.ReferenceIdeal.Gen Cert.Expo Cert.Head Cert.Quant Cert.Spec

/-- What the loop carries: maxima, sums, accumulators. -/
abbrev Carry : Type := FVec Ideal S16x8x32x128 .f32 × FVec Ideal S16x8x32x128 .f32 × FVec Ideal S16x8x32x128x256 .f32

/-- One step on whole arrays. -/
def stepV (qc : FVec Ideal S16x32768x256 .fp8e4m3) (qs : FVec Ideal S16x8x32x1x1 .f32) (kc vc : FVec Ideal S16x128x256 .fp8e4m3) (ks vs : FVec Ideal S16x1x1x1x1 .f32)
    (keep : IVec S16x8x32x128x128 1) (st : Carry) : Carry :=
  (maxV st.1 (scoresV qc qs kc ks keep),
   sumV st.2.1 (alV st.1 (maxV st.1 (scoresV qc qs kc ks keep))) (weightV (maxV st.1 (scoresV qc qs kc ks keep)) (scoresV qc qs kc ks keep)),
   accV vc vs (alV st.1 (maxV st.1 (scoresV qc qs kc ks keep))) (weightV (maxV st.1 (scoresV qc qs kc ks keep)) (scoresV qc qs kc ks keep)) st.2.2)

/-- The carried arrays hold, at group `n`, head `h` and block `i`, the state `s`. -/
structure Holds (st : Carry) (n : Fin 16) (h : Fin 8) (i : Fin 32) (s : RSt) : Prop where
  m : ∀ q, st.1 (ix4 n h i q) = s.m q
  l : ∀ q, st.2.1 (ix4 n h i q) = s.l q
  a : ∀ q d, st.2.2 (ix5 n h i q d) = s.a q d

theorem exp_nonneg (x : EReal) : 0 ≤ Ideal.exp x := by
  induction x with
  | bot => exact le_refl _
  | top => exact le_top
  | coe r => exact EReal.coe_nonneg.mpr (Real.exp_pos r).le

/-- A step of the arrays is a step of the state. -/
theorem stepV_holds (qc : FVec Ideal S16x32768x256 .fp8e4m3) (qs : FVec Ideal S16x8x32x1x1 .f32) (kc vc : FVec Ideal S16x128x256 .fp8e4m3) (ks vs : FVec Ideal S16x1x1x1x1 .f32)
    (keep : IVec S16x8x32x128x128 1) (st : Carry) (n : Fin 16) (h : Fin 8) (i : Fin 32) (s : RSt) (B : Blk)
    (hT : ∀ q k, scoresV qc qs kc ks keep (ix5 n h i q k) = rS B k q) (hv : ∀ k d, vc (ix3 n k d) = B.V k d) (hs : vs (ix5 n 0 0 0 0) = B.vs)
    (hst : Holds st n h i s) : Holds (stepV qc qs kc vc ks vs keep st) n h i (rstep B s) := by
  unfold stepV
  generalize scoresV qc qs kc ks keep = T at hT ⊢
  have hM : ∀ q, maxV st.1 T (ix4 n h i q) = rM B s q := fun q => by
    rw [maxV_apply, hst.m]; unfold rM; simp only [hT]
  generalize maxV st.1 T = M at hM ⊢
  have hA : ∀ q, alV st.1 M (ix4 n h i q) = rAl B s q := fun q => by
    rw [alV_apply, hst.m, hM]; rfl
  have hP : ∀ q k, weightV M T (ix5 n h i q k) = rP B s q k := fun q k => by
    rw [weightV_apply, hT, hM]; rfl
  have h0 : ∀ q k, 0 ≤ (weightV M T (ix5 n h i q k) : EReal) := fun q k => by
    rw [weightV_apply]; exact exp_nonneg _
  generalize alV st.1 M = al at hA ⊢
  generalize weightV M T = P at hP h0 ⊢
  refine ⟨hM, fun q => ?_, fun q d => ?_⟩
  · show sumV st.2.1 al P (ix4 n h i q) = rL B s q
    rw [sumV_apply, hA, hst.l]; unfold rL; simp only [hP]
  · show accV vc vs al P st.2.2 (ix5 n h i q d) = rA B s q d
    rw [accV_apply vc vs al P st.2.2 n h i q d h0, hA, hst.a, hs]; unfold rA rT; simp only [hP, hv]

variable (X : Vec Ideal S8x4096x4096 .bf16) (K W : Vec Ideal S8x4096x512 .bf16)

/-- The scores of the arrays are those of the data. -/
theorem scoresV_data (qc : FVec Ideal S16x32768x256 .fp8e4m3) (qs : FVec Ideal S16x8x32x1x1 .f32) (kc : FVec Ideal S16x128x256 .fp8e4m3) (ks : FVec Ideal S16x1x1x1x1 .f32)
    (b : Fin 8) (g : Fin 2) (h : Fin 8) (i j : Fin 32)
    (h1 : ∀ q d, qc (ix3 (grp b g) (hrow h i q) d) = qcode (xblk X b (qh g h) i) q d) (h2 : qs (ix5 (grp b g) h i 0 0) = pw (qexp (xblk X b (qh g h) i)))
    (h3 : ∀ k d, kc (ix3 (grp b g) k d) = qcode (kblk K b g j) k d) (h4 : ks (ix5 (grp b g) 0 0 0 0) = pw (qexp (kblk K b g j))) (q k : Fin 128) :
    scoresV qc qs kc ks (keepV j.val keyPos k0_pay3) (ix5 (grp b g) h i q k) = rS (Data.D X K W b g h i j) k q := by
  rw [scoresV_apply, keepV_apply, h2, h4]
  simp only [h1, h3]
  unfold rS Data.D Data.dotc
  dsimp only
  by_cases hc : (row j k).val ≤ (row i q).val
  · rw [if_pos hc, decide_eq_true hc]
    show _ * _ * _ = _
    congr 2
    exact Finset.sum_congr rfl fun d _ => mul_comm _ _
  · rw [if_neg hc, decide_eq_false hc]
    show ⊥ = _
    rw [EReal.bot_mul_of_pos (EReal.mul_pos (pw_pos _) (pw_pos _)), ofBits_16th, EReal.bot_mul_coe_of_pos (by norm_num)]

/-! The reference's step in terms of the arrays it loads. -/
section
variable (qc : FVec Ideal S16x32768x256 .fp8e4m3) (qs : FVec Ideal S16x8x32x1x1 .f32) (p : IVec S16x8x32x128x128 32) (j : Fin k0_t1_loop.trips)
  (m l : FVec Ideal S16x8x32x128 .f32) (a : FVec Ideal S16x8x32x128x256 .f32) (k v : Vec Ideal S8x2x128x256 .fp8e4m3) (ks vs : Vec Ideal S8x2x1 .f32)
theorem pay12_eq : k0_pay12 qc qs keyPos p 0#32 1#32 j k ks = scoresV qc qs (k0_pay10 k) (k0_pay11 ks) (keepV j.val keyPos p) := rfl
theorem pay13_eq : k0_pay13 qc qs keyPos p 0#32 1#32 j m k ks = maxV m (k0_pay12 qc qs keyPos p 0#32 1#32 j k ks) := rfl
theorem pay14_eq : k0_pay14 qc qs keyPos p 0#32 1#32 j m k ks = alV m (k0_pay13 qc qs keyPos p 0#32 1#32 j m k ks) := rfl
theorem pay15_eq : k0_pay15 qc qs keyPos p 0#32 1#32 j m k ks = weightV (k0_pay13 qc qs keyPos p 0#32 1#32 j m k ks) (k0_pay12 qc qs keyPos p 0#32 1#32 j k ks) := rfl
theorem pay7_eq (P : FVec Ideal S16x8x32x128x128 .f32) : k0_pay7 P (k0_pay16 qc qs keyPos p 0#32 1#32 j m l k ks) = sumV l (k0_pay14 qc qs keyPos p 0#32 1#32 j m k ks) P := rfl
theorem pay8_eq (vc : FVec Ideal S16x128x256 .fp8e4m3) (vs : FVec Ideal S16x1x1x1x1 .f32) (al : FVec Ideal S16x8x32x128 .f32) (P : FVec Ideal S16x8x32x128x128 .f32) :
    k0_pay8 a vc vs al P = accV vc vs al P a := rfl
/-- The payloads of a trip make one step. -/
theorem pays_eq (st : Carry) : (k0_pay13 qc qs keyPos p 0#32 1#32 j st.1 k ks,
      k0_pay7 (k0_pay15 qc qs keyPos p 0#32 1#32 j st.1 k ks) (k0_pay16 qc qs keyPos p 0#32 1#32 j st.1 st.2.1 k ks),
      k0_pay8 st.2.2 (k0_pay10 v) (k0_pay11 vs) (k0_pay14 qc qs keyPos p 0#32 1#32 j st.1 k ks) (k0_pay15 qc qs keyPos p 0#32 1#32 j st.1 k ks))
    = stepV qc qs (k0_pay10 k) (k0_pay10 v) (k0_pay11 ks) (k0_pay11 vs) (keepV j.val keyPos p) st := by
  rw [pay7_eq, pay8_eq, pay15_eq, pay14_eq, pay13_eq, pay12_eq]; rfl
theorem pay10_eq : k0_pay10 k = shapeCast S16x128x256 (shapeCast S8x2x128x256 k shapeCasts_S8x2x128x256_S8x2x128x256 : FVec Ideal S8x2x128x256 .fp8e4m3) shapeCasts_S8x2x128x256_S16x128x256 := rfl
theorem pay11_eq : k0_pay11 ks = shapeCast S16x1x1x1x1 (shapeCast S8x2x1 ks shapeCasts_S8x2x1_S8x2x1 : FVec Ideal S8x2x1 .f32) shapeCasts_S8x2x1_S16x1x1x1x1 := rfl
theorem pay1_eq (x : FVec Ideal S8x16x4096x256 .fp8e4m3) : k0_pay1 x = shapeCast S16x32768x256 x shapeCasts_S8x16x4096x256_S16x32768x256 := rfl
theorem pay2_eq (x : FVec Ideal S8x16x32 .f32) : k0_pay2 x = shapeCast S16x8x32x1x1 (shapeCast S16x8x32 x shapeCasts_S8x16x32_S16x8x32 : FVec Ideal S16x8x32 .f32) shapeCasts_S16x8x32_S16x8x32x1x1 := rfl
theorem pay10_apply (b : Fin 8) (g : Fin 2) (x : Fin 128) (d : Fin 256) : k0_pay10 k (ix3 (grp b g) x d) = k (ix4 b g x d) := by
  rw [pay10_eq, kv_apply, kself]
theorem pay11_apply (b : Fin 8) (g : Fin 2) : k0_pay11 ks (ix5 (grp b g) 0 0 0 0) = ks (ix3 b g 0) := by
  rw [pay11_eq, sv_apply, sself]
theorem pay1_apply (x : FVec Ideal S8x16x4096x256 .fp8e4m3) (b : Fin 8) (g : Fin 2) (h : Fin 8) (i : Fin 32) (q : Fin 128) (d : Fin 256) :
    k0_pay1 x (ix3 (grp b g) (hrow h i q) d) = x (ix4 b (qh g h) (row i q) d) := by
  rw [pay1_eq, qv_apply]
theorem pay2_apply (x : FVec Ideal S8x16x32 .f32) (b : Fin 8) (g : Fin 2) (h : Fin 8) (i : Fin 32) :
    k0_pay2 x (ix5 (grp b g) h i 0 0) = x (ix3 b (qh g h) i) := by
  rw [pay2_eq, keep3, qs_apply]
end
end Cert.Ref
end
-- ==== Proof.RefTrip.lean ====
/-
  One trip of the reference's loop is the step of `Proof/RefStep.lean`, and after `n` trips the carried arrays hold the
  state of `Proof/Sim.lean` after `n` blocks of keys.
-/
module

public import proofs.«01_k».proof.Proof.RefStep
public import proofs.«01_k».proof.Proof.Gen.ReferenceIdeal.Loops

@[expose] public section

set_option maxRecDepth 16384

noncomputable section

namespace Cert.Ref

open Idealize.ShloMosaic Idealize.ShloMosaic.TcCoe Cert.ReferenceIdeal Cert.ReferenceIdeal.Gen Cert.Expo Cert.Head Cert.Quant Cert.Spec
open Idealize.SL Idealize.SL.RA Idealize.SL.BI Idealize.SL.Sem

/-- The block of codes that trip `k` loads from an array of codes. -/
def codesAt (arg : Memref sig .tc .vmem S8x2x4096x256 .fp8e4m3) (X : BufTy.Contents (Elt Ideal) arg.view.ty) (k : Fin k0_t1_loop.trips) : Vec Ideal S8x2x128x256 .fp8e4m3 :=
  View.readAt (Elt Ideal) arg.view (Rect.unit (s := S8x2x4096x256) (k0_off1 k) S8x2x128x256.size (k0_off1_inb k)).toLoadRect X
/-- The scales that trip `k` loads from an array of scales. -/
def scalesAt (arg : Memref sig .tc .vmem S8x2x32 .f32) (X : BufTy.Contents (Elt Ideal) arg.view.ty) (k : Fin k0_t1_loop.trips) : Vec Ideal S8x2x1 .f32 :=
  View.readAt (Elt Ideal) arg.view (Rect.unit (s := S8x2x32) (k0_off2 k) S8x2x1.size (k0_off2_inb k)).toLoadRect X

theorem codesAt_apply (arg : Memref sig .tc .vmem S8x2x4096x256 .fp8e4m3) (X : BufTy.Contents (Elt Ideal) arg.view.ty) (x : Vec Ideal S8x2x4096x256 .fp8e4m3)
    (hx : arg.view.read (Elt Ideal) X = x) (k : Fin k0_t1_loop.trips) (j : Fin 32) (hj : j.val = k.val) (b : Fin 8) (g : Fin 2) (a : Fin 128) (d : Fin 256) :
    codesAt arg X k (ix4 b g a d) = x (ix4 b g (row j a) d) := by
  unfold codesAt row
  rw [View.readAt_eq_ld, hx]
  pointwise []
  have e := k0_off1_eq k
  refine congrArg x (funext fun z => Fin.ext ?_)
  match z with
  | 0 => exact (congrArg (· + b.val) (congrFun e 0)).trans (Nat.zero_add _)
  | 1 => exact (congrArg (· + g.val) (congrFun e 1)).trans (Nat.zero_add _)
  | 2 => exact (congrArg (· + a.val) (congrFun e 2)).trans (by show 128 * k.val + a.val = 128 * j.val + a.val; rw [hj])
  | 3 => exact (congrArg (· + d.val) (congrFun e 3)).trans (Nat.zero_add _)
theorem scalesAt_apply (arg : Memref sig .tc .vmem S8x2x32 .f32) (X : BufTy.Contents (Elt Ideal) arg.view.ty) (x : Vec Ideal S8x2x32 .f32)
    (hx : arg.view.read (Elt Ideal) X = x) (k : Fin k0_t1_loop.trips) (j : Fin 32) (hj : j.val = k.val) (b : Fin 8) (g : Fin 2) :
    scalesAt arg X k (ix3 b g 0) = x (ix3 b g j) := by
  unfold scalesAt
  rw [View.readAt_eq_ld, hx]
  pointwise []
  have e := k0_off2_eq k
  refine congrArg x (funext fun z => Fin.ext ?_)
  match z with
  | 0 => exact (congrArg (· + b.val) (congrFun e 0)).trans (Nat.zero_add _)
  | 1 => exact (congrArg (· + g.val) (congrFun e 1)).trans (Nat.zero_add _)
  | 2 => exact (congrFun e 2).trans hj.symm

theorem trips_eq : k0_t1_loop.trips = 32 := by decide +kernel

section
variable (𝒱 : Variants) (c : Dev nD) (bd : Option 𝒱.V) (arg0 : Memref sig .tc .vmem S8x4096x4096 .bf16) (harg0 : arg0.IsWhole) (arg1 : Memref sig .tc .vmem S8x4096x512 .bf16) (harg1 : arg1.IsWhole) (arg2 : Memref sig .tc .vmem S8x4096x512 .bf16) (harg2 : arg2.IsWhole) (arg3 : Memref sig .tc .vmem S8x4096x4096 .bf16) (harg3 : arg3.IsWhole) (arg4 : Memref sig .tc .vmem S8x16x4096x256 .fp8e4m3) (harg4 : arg4.IsWhole) (arg5 : Memref sig .tc .vmem S8x16x32 .f32) (harg5 : arg5.IsWhole) (arg6 : Memref sig .tc .vmem S8x2x4096x256 .fp8e4m3) (harg6 : arg6.IsWhole) (arg7 : Memref sig .tc .vmem S8x2x32 .f32) (harg7 : arg7.IsWhole) (arg8 : Memref sig .tc .vmem S8x2x4096x256 .fp8e4m3) (harg8 : arg8.IsWhole) (arg9 : Memref sig .tc .vmem S8x2x32 .f32) (harg9 : arg9.IsWhole) (v35 : FVec Ideal S8x16x4096x256 .fp8e4m3) (v36 : FVec Ideal S8x16x32 .f32) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty)

/-- What one trip carries on. -/
theorem tripR_eq (k : Fin k0_t1_loop.trips) (acc : Carry) :
    tripR_k0_t1 (F := Ideal) 𝒱 c bd arg0 harg0 arg1 harg1 arg2 harg2 arg3 harg3 arg4 harg4 arg5 harg5 arg6 harg6 arg7 harg7 arg8 harg8 arg9 harg9 v35 v36 keyPos X_arg6 X_arg7 X_arg8 X_arg9 k acc
      = (k0_pay13 (k0_pay1 v35) (k0_pay2 v36) keyPos k0_pay3 0#32 1#32 k acc.1 (codesAt arg6 X_arg6 k) (scalesAt arg7 X_arg7 k),
        k0_pay7 (k0_pay15 (k0_pay1 v35) (k0_pay2 v36) keyPos k0_pay3 0#32 1#32 k acc.1 (codesAt arg6 X_arg6 k) (scalesAt arg7 X_arg7 k)) (k0_pay16 (k0_pay1 v35) (k0_pay2 v36) keyPos k0_pay3 0#32 1#32 k acc.1 acc.2.1 (codesAt arg6 X_arg6 k) (scalesAt arg7 X_arg7 k)),
        k0_pay8 acc.2.2 (k0_pay10 (codesAt arg8 X_arg8 k)) (k0_pay11 (scalesAt arg9 X_arg9 k)) (k0_pay14 (k0_pay1 v35) (k0_pay2 v36) keyPos k0_pay3 0#32 1#32 k acc.1 (codesAt arg6 X_arg6 k) (scalesAt arg7 X_arg7 k)) (k0_pay15 (k0_pay1 v35) (k0_pay2 v36) keyPos k0_pay3 0#32 1#32 k acc.1 (codesAt arg6 X_arg6 k) (scalesAt arg7 X_arg7 k))) := by
  unfold tripR_k0_t1; unfold trip_k0_t1; dsimp only; rfl

variable (X : Vec Ideal S8x4096x4096 .bf16) (K W : Vec Ideal S8x4096x512 .bf16)

/-- The carried arrays after `n` trips. -/
theorem st_holds (h35 : v35 = codes16 X) (h36 : v36 = scales16 X)
    (h6 : arg6.view.read (Elt Ideal) X_arg6 = codes2 K) (h7 : arg7.view.read (Elt Ideal) X_arg7 = scales2 K)
    (h8 : arg8.view.read (Elt Ideal) X_arg8 = codes2 W) (h9 : arg9.view.read (Elt Ideal) X_arg9 = scales2 W)
    (b : Fin 8) (g : Fin 2) (h : Fin 8) (i : Fin 32) : ∀ n ≤ 32,
    Holds (st_k0_t1 (F := Ideal) 𝒱 c bd arg0 harg0 arg1 harg1 arg2 harg2 arg3 harg3 arg4 harg4 arg5 harg5 arg6 harg6 arg7 harg7 arg8 harg8 arg9 harg9 v35 v36 keyPos X_arg6 X_arg7 X_arg8 X_arg9 (k0_pay4, k0_pay5, k0_pay6) n) (grp b g) h i (rst (Data.D X K W b g h i) n) := by
  intro n
  induction n with
  | zero =>
    intro _
    rw [st_k0_t1_zero]
    exact ⟨fun q => ofBits_ninf, fun q => ofBits_zero, fun q d => ofBits_zero⟩
  | succ n ih =>
    intro hn
    have hk : n < k0_t1_loop.trips := by rw [trips_eq]; omega
    have e := st_k0_t1_succ (F := Ideal) 𝒱 c bd arg0 harg0 arg1 harg1 arg2 harg2 arg3 harg3 arg4 harg4 arg5 harg5 arg6 harg6 arg7 harg7 arg8 harg8 arg9 harg9 v35 v36 keyPos X_arg6 X_arg7 X_arg8 X_arg9 (k0_pay4, k0_pay5, k0_pay6) ⟨n, hk⟩
    have e2 := rst_succ (Data.D X K W b g h i) ⟨n, hn⟩
    dsimp only at e e2
    rw [e, e2, tripR_eq, pays_eq]
    refine stepV_holds _ _ _ _ _ _ _ _ _ _ _ _ _ (fun q k => ?_) (fun k d => ?_) ?_ (ih (by omega))
    · refine scoresV_data X K W _ _ _ _ b g h i ⟨n, hn⟩ (fun q d => ?_) ?_ (fun k d => ?_) ?_ q k
      · rw [pay1_apply, h35]; exact codes16_row X b (qh g h) i q d
      · rw [pay2_apply, h36]; rfl
      · rw [pay10_apply, codesAt_apply arg6 X_arg6 _ h6 ⟨n, hk⟩ ⟨n, hn⟩ rfl]; exact codes2_row K b g ⟨n, hn⟩ k d
      · rw [pay11_apply, scalesAt_apply arg7 X_arg7 _ h7 ⟨n, hk⟩ ⟨n, hn⟩ rfl]; rfl
    · rw [pay10_apply, codesAt_apply arg8 X_arg8 _ h8 ⟨n, hk⟩ ⟨n, hn⟩ rfl]; exact codes2_row W b g ⟨n, hn⟩ k d
    · rw [pay11_apply, scalesAt_apply arg9 X_arg9 _ h9 ⟨n, hk⟩ ⟨n, hn⟩ rfl]; rfl
end
end Cert.Ref
end
-- ==== Proof.RefOut.lean ====
/-
  What the reference's body stores: the codes and the scales of the three arguments, and the attention.
-/
module

public import proofs.«01_k».proof.Proof.RefTrip
public import proofs.«01_k».proof.Proof.Att
public import Idealize.ShloMosaic.Lib.Pipeline.ValueKit
import all proofs.«01_k».proof.Proof.Gen.ReferenceIdeal.Frame
public import proofs.«01_k».proof.Proof.Gen.ReferenceIdeal.Frame

@[expose] public section

set_option maxRecDepth 16384

noncomputable section

namespace Cert.Ref

open Idealize.ShloMosaic Idealize.ShloMosaic.TcCoe Cert.ReferenceIdeal Cert.ReferenceIdeal.Gen Cert.Expo Cert.Head Cert.Quant Cert.Spec Cert.Att
open Idealize.SL Idealize.SL.RA Idealize.SL.BI Idealize.SL.Sem

/-- The heads laid side by side: the entry of a group and a head of it, a block, a position and a feature. -/
theorem sideBySide (v : FVec Ideal S16x8x32x128x256 .f32) (b : Fin 8) (g : Fin 2) (h : Fin 8) (i : Fin 32) (q : Fin 128) (d : Fin 256) :
    shapeCast S8x4096x4096 (transpose S8x32x128x2x8x256 [0, 3, 4, 1, 2, 5] (shapeCast S8x2x8x32x128x256 v shapeCasts_S16x8x32x128x256_S8x2x8x32x128x256) transposes_S8x2x8x32x128x256_p0_3_4_1_2_5_S8x32x128x2x8x256) shapeCasts_S8x32x128x2x8x256_S8x4096x4096
      (ix3 b (row i q) (col g h d)) = v (ix5 (grp b g) h i q d) := by
  pointwise [row, col, grp]
  exact congrArg (fun x => v (ix5 x h i q d)) (Fin.ext (by dsimp only; omega))

/-- The same array without its last change of format, which changes no value here. -/
theorem pay9_eq (l : FVec Ideal S16x8x32x128 .f32) (a : FVec Ideal S16x8x32x128x256 .f32) :
    k0_pay9 l a = shapeCast S8x4096x4096 (transpose S8x32x128x2x8x256 [0, 3, 4, 1, 2, 5] (shapeCast S8x2x8x32x128x256 (divf a (broadcastTo S16x8x32x128x256 (shapeCast S16x8x32x128x1 l shapeCasts_S16x8x32x128_S16x8x32x128x1) broadcasts_S16x8x32x128x1_S16x8x32x128x256)) shapeCasts_S16x8x32x128x256_S8x2x8x32x128x256) transposes_S8x2x8x32x128x256_p0_3_4_1_2_5_S8x32x128x2x8x256) shapeCasts_S8x32x128x2x8x256_S8x4096x4096 := rfl

/-- The attention stored: the accumulator over the sums. -/
theorem pay9_apply (l : FVec Ideal S16x8x32x128 .f32) (a : FVec Ideal S16x8x32x128x256 .f32) (b : Fin 8) (g : Fin 2) (h : Fin 8) (i : Fin 32) (q : Fin 128) (d : Fin 256) :
    k0_pay9 l a (ix3 b (row i q) (col g h d)) = Ideal.div (a (ix5 (grp b g) h i q d)) (l (ix4 (grp b g) h i q)) := by
  rw [pay9_eq, sideBySide, divf_at, rowD, keep4]

/-- Every index of the attention is a batch entry, a block, a position, a group, a head of it and a feature. -/
theorem split_att (y : S8x4096x4096.Idx) : ∃ (b : Fin 8) (i : Fin 32) (q : Fin 128) (g : Fin 2) (h : Fin 8) (d : Fin 256), y = ix3 b (row i q) (col g h d) :=
  have h1 : (y 1).val < 4096 := (y 1).isLt
  have h2 : (y 2).val < 4096 := (y 2).isLt
  ⟨y 0, ⟨(y 1).val / 128, by omega⟩, ⟨(y 1).val % 128, by omega⟩, ⟨(y 2).val / 2048, by omega⟩, ⟨(y 2).val / 256 % 8, by omega⟩, ⟨(y 2).val % 256, by omega⟩, by
    ext a
    match a with
    | 0 => rfl
    | 1 => (show (y 1).val = 128 * ((y 1).val / 128) + (y 1).val % 128; omega)
    | 2 => (show (y 2).val = 2048 * ((y 2).val / 2048) + 256 * ((y 2).val / 256 % 8) + (y 2).val % 256; omega)⟩

/-! Whole-array loads and stores. -/
theorem load_S8x16x32f32 (arg : Memref sig .tc .vmem S8x16x32 .f32) (harg : arg.IsWhole) (x : Vec Ideal S8x16x32 .f32) :
    View.readAt (Elt Ideal) arg.view (Rect.unit (s := S8x16x32) ![0, 0, 0] S8x16x32.size inb_S8x16x32_S8x16x32_0_0_0).toLoadRect (harg.unread x) = x := by
  rw [View.readAt_eq_ld, harg.read_unread]
  exact View.ld_unit_lit' _ x (by decide)
theorem store_S8x16x32f32 (v : View sig .tc .vmem S8x16x32 .f32) (x : Vec Ideal S8x16x32 .f32) :
    v.read (Elt Ideal) (v.writes (Elt Ideal) v.junk [⟨(Rect.unit (s := S8x16x32) ![0, 0, 0] S8x16x32.size inb_S8x16x32_S8x16x32_0_0_0), x⟩]) = x := by
  rw [View.read_writes_junk_eq_canon]
  exact View.canon_cons_unit_lit' _ x [] (by decide)
theorem load_S8x16x4096x256fp8e4m3 (arg : Memref sig .tc .vmem S8x16x4096x256 .fp8e4m3) (harg : arg.IsWhole) (x : Vec Ideal S8x16x4096x256 .fp8e4m3) :
    View.readAt (Elt Ideal) arg.view (Rect.unit (s := S8x16x4096x256) ![0, 0, 0, 0] S8x16x4096x256.size inb_S8x16x4096x256_S8x16x4096x256_0_0_0_0).toLoadRect (harg.unread x) = x := by
  rw [View.readAt_eq_ld, harg.read_unread]
  exact View.ld_unit_lit' _ x (by decide)
theorem store_S8x16x4096x256fp8e4m3 (v : View sig .tc .vmem S8x16x4096x256 .fp8e4m3) (x : Vec Ideal S8x16x4096x256 .fp8e4m3) :
    v.read (Elt Ideal) (v.writes (Elt Ideal) v.junk [⟨(Rect.unit (s := S8x16x4096x256) ![0, 0, 0, 0] S8x16x4096x256.size inb_S8x16x4096x256_S8x16x4096x256_0_0_0_0), x⟩]) = x := by
  rw [View.read_writes_junk_eq_canon]
  exact View.canon_cons_unit_lit' _ x [] (by decide)
theorem load_S8x2x32f32 (arg : Memref sig .tc .vmem S8x2x32 .f32) (harg : arg.IsWhole) (x : Vec Ideal S8x2x32 .f32) :
    View.readAt (Elt Ideal) arg.view (Rect.unit (s := S8x2x32) ![0, 0, 0] S8x2x32.size inb_S8x2x32_S8x2x32_0_0_0).toLoadRect (harg.unread x) = x := by
  rw [View.readAt_eq_ld, harg.read_unread]
  exact View.ld_unit_lit' _ x (by decide)
theorem store_S8x2x32f32 (v : View sig .tc .vmem S8x2x32 .f32) (x : Vec Ideal S8x2x32 .f32) :
    v.read (Elt Ideal) (v.writes (Elt Ideal) v.junk [⟨(Rect.unit (s := S8x2x32) ![0, 0, 0] S8x2x32.size inb_S8x2x32_S8x2x32_0_0_0), x⟩]) = x := by
  rw [View.read_writes_junk_eq_canon]
  exact View.canon_cons_unit_lit' _ x [] (by decide)
theorem load_S8x2x4096x256fp8e4m3 (arg : Memref sig .tc .vmem S8x2x4096x256 .fp8e4m3) (harg : arg.IsWhole) (x : Vec Ideal S8x2x4096x256 .fp8e4m3) :
    View.readAt (Elt Ideal) arg.view (Rect.unit (s := S8x2x4096x256) ![0, 0, 0, 0] S8x2x4096x256.size inb_S8x2x4096x256_S8x2x4096x256_0_0_0_0).toLoadRect (harg.unread x) = x := by
  rw [View.readAt_eq_ld, harg.read_unread]
  exact View.ld_unit_lit' _ x (by decide)
theorem store_S8x2x4096x256fp8e4m3 (v : View sig .tc .vmem S8x2x4096x256 .fp8e4m3) (x : Vec Ideal S8x2x4096x256 .fp8e4m3) :
    v.read (Elt Ideal) (v.writes (Elt Ideal) v.junk [⟨(Rect.unit (s := S8x2x4096x256) ![0, 0, 0, 0] S8x2x4096x256.size inb_S8x2x4096x256_S8x2x4096x256_0_0_0_0), x⟩]) = x := by
  rw [View.read_writes_junk_eq_canon]
  exact View.canon_cons_unit_lit' _ x [] (by decide)
theorem load_S8x4096x4096bf16 (arg : Memref sig .tc .vmem S8x4096x4096 .bf16) (harg : arg.IsWhole) (x : Vec Ideal S8x4096x4096 .bf16) :
    View.readAt (Elt Ideal) arg.view (Rect.unit (s := S8x4096x4096) ![0, 0, 0] S8x4096x4096.size inb_S8x4096x4096_S8x4096x4096_0_0_0).toLoadRect (harg.unread x) = x := by
  rw [View.readAt_eq_ld, harg.read_unread]
  exact View.ld_unit_lit' _ x (by decide)
theorem store_S8x4096x4096bf16 (v : View sig .tc .vmem S8x4096x4096 .bf16) (x : Vec Ideal S8x4096x4096 .bf16) :
    v.read (Elt Ideal) (v.writes (Elt Ideal) v.junk [⟨(Rect.unit (s := S8x4096x4096) ![0, 0, 0] S8x4096x4096.size inb_S8x4096x4096_S8x4096x4096_0_0_0), x⟩]) = x := by
  rw [View.read_writes_junk_eq_canon]
  exact View.canon_cons_unit_lit' _ x [] (by decide)
theorem load_S8x4096x512bf16 (arg : Memref sig .tc .vmem S8x4096x512 .bf16) (harg : arg.IsWhole) (x : Vec Ideal S8x4096x512 .bf16) :
    View.readAt (Elt Ideal) arg.view (Rect.unit (s := S8x4096x512) ![0, 0, 0] S8x4096x512.size inb_S8x4096x512_S8x4096x512_0_0_0).toLoadRect (harg.unread x) = x := by
  rw [View.readAt_eq_ld, harg.read_unread]
  exact View.ld_unit_lit' _ x (by decide)
theorem store_S8x4096x512bf16 (v : View sig .tc .vmem S8x4096x512 .bf16) (x : Vec Ideal S8x4096x512 .bf16) :
    v.read (Elt Ideal) (v.writes (Elt Ideal) v.junk [⟨(Rect.unit (s := S8x4096x512) ![0, 0, 0] S8x4096x512.size inb_S8x4096x512_S8x4096x512_0_0_0), x⟩]) = x := by
  rw [View.read_writes_junk_eq_canon]
  exact View.canon_cons_unit_lit' _ x [] (by decide)

section
variable (c : Dev nD) (arg0 : Memref sig .tc .vmem S8x4096x4096 .bf16) (harg0 : arg0.IsWhole) (arg1 : Memref sig .tc .vmem S8x4096x512 .bf16) (harg1 : arg1.IsWhole) (arg2 : Memref sig .tc .vmem S8x4096x512 .bf16) (harg2 : arg2.IsWhole) (arg3 : Memref sig .tc .vmem S8x4096x4096 .bf16) (harg3 : arg3.IsWhole) (arg4 : Memref sig .tc .vmem S8x16x4096x256 .fp8e4m3) (harg4 : arg4.IsWhole) (arg5 : Memref sig .tc .vmem S8x16x32 .f32) (harg5 : arg5.IsWhole) (arg6 : Memref sig .tc .vmem S8x2x4096x256 .fp8e4m3) (harg6 : arg6.IsWhole) (arg7 : Memref sig .tc .vmem S8x2x32 .f32) (harg7 : arg7.IsWhole) (arg8 : Memref sig .tc .vmem S8x2x4096x256 .fp8e4m3) (harg8 : arg8.IsWhole) (arg9 : Memref sig .tc .vmem S8x2x32 .f32) (harg9 : arg9.IsWhole)
  (x0 : Vec Ideal S8x4096x4096 .bf16) (x1 x2 : Vec Ideal S8x4096x512 .bf16)

/-! What each output's buffer is given. -/
set_option maxHeartbeats 4000000 in
theorem pieces4 : (kernelRun0_A (F := Ideal) c arg0 harg0 arg1 harg1 arg2 harg2 arg3 harg3 arg4 harg4 arg5 harg5 arg6 harg6 arg7 harg7 arg8 harg8 arg9 harg9 x0 x1 x2).2.1 = [⟨(Rect.unit (s := S8x16x4096x256) ![0, 0, 0, 0] S8x16x4096x256.size inb_S8x16x4096x256_S8x16x4096x256_0_0_0_0), k0_pay19 (View.readAt (Elt Ideal) arg0.view (Rect.unit (s := S8x4096x4096) ![0, 0, 0] S8x4096x4096.size inb_S8x4096x4096_S8x4096x4096_0_0_0).toLoadRect (harg0.unread x0))⟩] := by
  unfold kernelRun0_A; dsimp only; rfl
set_option maxHeartbeats 4000000 in
theorem pieces5 : (kernelRun0_A (F := Ideal) c arg0 harg0 arg1 harg1 arg2 harg2 arg3 harg3 arg4 harg4 arg5 harg5 arg6 harg6 arg7 harg7 arg8 harg8 arg9 harg9 x0 x1 x2).2.2.1 = [⟨(Rect.unit (s := S8x16x32) ![0, 0, 0] S8x16x32.size inb_S8x16x32_S8x16x32_0_0_0), k0_pay20 (View.readAt (Elt Ideal) arg0.view (Rect.unit (s := S8x4096x4096) ![0, 0, 0] S8x4096x4096.size inb_S8x4096x4096_S8x4096x4096_0_0_0).toLoadRect (harg0.unread x0))⟩] := by
  unfold kernelRun0_A; dsimp only; rfl
set_option maxHeartbeats 4000000 in
theorem pieces6 : (kernelRun0_A (F := Ideal) c arg0 harg0 arg1 harg1 arg2 harg2 arg3 harg3 arg4 harg4 arg5 harg5 arg6 harg6 arg7 harg7 arg8 harg8 arg9 harg9 x0 x1 x2).2.2.2.1 = [⟨(Rect.unit (s := S8x2x4096x256) ![0, 0, 0, 0] S8x2x4096x256.size inb_S8x2x4096x256_S8x2x4096x256_0_0_0_0), k0_pay24 (k0_pay21 (View.readAt (Elt Ideal) arg1.view (Rect.unit (s := S8x4096x512) ![0, 0, 0] S8x4096x512.size inb_S8x4096x512_S8x4096x512_0_0_0).toLoadRect (harg1.unread x1))) (k0_pay22 (View.readAt (Elt Ideal) arg1.view (Rect.unit (s := S8x4096x512) ![0, 0, 0] S8x4096x512.size inb_S8x4096x512_S8x4096x512_0_0_0).toLoadRect (harg1.unread x1)))⟩] := by
  unfold kernelRun0_A; dsimp only; rfl
set_option maxHeartbeats 4000000 in
theorem pieces7 : (kernelRun0_A (F := Ideal) c arg0 harg0 arg1 harg1 arg2 harg2 arg3 harg3 arg4 harg4 arg5 harg5 arg6 harg6 arg7 harg7 arg8 harg8 arg9 harg9 x0 x1 x2).2.2.2.2.1 = [⟨(Rect.unit (s := S8x2x32) ![0, 0, 0] S8x2x32.size inb_S8x2x32_S8x2x32_0_0_0), k0_pay25 (k0_pay22 (View.readAt (Elt Ideal) arg1.view (Rect.unit (s := S8x4096x512) ![0, 0, 0] S8x4096x512.size inb_S8x4096x512_S8x4096x512_0_0_0).toLoadRect (harg1.unread x1)))⟩] := by
  unfold kernelRun0_A; dsimp only; rfl
set_option maxHeartbeats 4000000 in
theorem pieces8 : (kernelRun0_A (F := Ideal) c arg0 harg0 arg1 harg1 arg2 harg2 arg3 harg3 arg4 harg4 arg5 harg5 arg6 harg6 arg7 harg7 arg8 harg8 arg9 harg9 x0 x1 x2).2.2.2.2.2.1 = [⟨(Rect.unit (s := S8x2x4096x256) ![0, 0, 0, 0] S8x2x4096x256.size inb_S8x2x4096x256_S8x2x4096x256_0_0_0_0), k0_pay31 (k0_pay26 (View.readAt (Elt Ideal) arg2.view (Rect.unit (s := S8x4096x512) ![0, 0, 0] S8x4096x512.size inb_S8x4096x512_S8x4096x512_0_0_0).toLoadRect (harg2.unread x2))) (k0_pay27 (View.readAt (Elt Ideal) arg2.view (Rect.unit (s := S8x4096x512) ![0, 0, 0] S8x4096x512.size inb_S8x4096x512_S8x4096x512_0_0_0).toLoadRect (harg2.unread x2))) (k0_pay28 (View.readAt (Elt Ideal) arg2.view (Rect.unit (s := S8x4096x512) ![0, 0, 0] S8x4096x512.size inb_S8x4096x512_S8x4096x512_0_0_0).toLoadRect (harg2.unread x2))) k0_pay29⟩] := by
  unfold kernelRun0_A; dsimp only; rfl
set_option maxHeartbeats 4000000 in
theorem pieces9 : (kernelRun0_A (F := Ideal) c arg0 harg0 arg1 harg1 arg2 harg2 arg3 harg3 arg4 harg4 arg5 harg5 arg6 harg6 arg7 harg7 arg8 harg8 arg9 harg9 x0 x1 x2).2.2.2.2.2.2.1 = [⟨(Rect.unit (s := S8x2x32) ![0, 0, 0] S8x2x32.size inb_S8x2x32_S8x2x32_0_0_0), k0_pay32 (k0_pay27 (View.readAt (Elt Ideal) arg2.view (Rect.unit (s := S8x4096x512) ![0, 0, 0] S8x4096x512.size inb_S8x4096x512_S8x4096x512_0_0_0).toLoadRect (harg2.unread x2))) (k0_pay28 (View.readAt (Elt Ideal) arg2.view (Rect.unit (s := S8x4096x512) ![0, 0, 0] S8x4096x512.size inb_S8x4096x512_S8x4096x512_0_0_0).toLoadRect (harg2.unread x2))) k0_pay29⟩] := by
  unfold kernelRun0_A; dsimp only; rfl
set_option maxHeartbeats 4000000 in
theorem pieces3 : (kernelRun0_A (F := Ideal) c arg0 harg0 arg1 harg1 arg2 harg2 arg3 harg3 arg4 harg4 arg5 harg5 arg6 harg6 arg7 harg7 arg8 harg8 arg9 harg9 x0 x1 x2).1 = [⟨(Rect.unit (s := S8x4096x4096) ![0, 0, 0] S8x4096x4096.size inb_S8x4096x4096_S8x4096x4096_0_0_0), k0_pay9
    (st_k0_t1 (F := Ideal) Variants.none c none arg0 harg0 arg1 harg1 arg2 harg2 arg3 harg3 arg4 harg4 arg5 harg5 arg6 harg6 arg7 harg7 arg8 harg8 arg9 harg9 (k0_pay19 (View.readAt (Elt Ideal) arg0.view (Rect.unit (s := S8x4096x4096) ![0, 0, 0] S8x4096x4096.size inb_S8x4096x4096_S8x4096x4096_0_0_0).toLoadRect (harg0.unread x0))) (k0_pay20 (View.readAt (Elt Ideal) arg0.view (Rect.unit (s := S8x4096x4096) ![0, 0, 0] S8x4096x4096.size inb_S8x4096x4096_S8x4096x4096_0_0_0).toLoadRect (harg0.unread x0))) keyPos (arg6.view.writes (Elt Ideal) arg6.view.junk [⟨(Rect.unit (s := S8x2x4096x256) ![0, 0, 0, 0] S8x2x4096x256.size inb_S8x2x4096x256_S8x2x4096x256_0_0_0_0), k0_pay24 (k0_pay21 (View.readAt (Elt Ideal) arg1.view (Rect.unit (s := S8x4096x512) ![0, 0, 0] S8x4096x512.size inb_S8x4096x512_S8x4096x512_0_0_0).toLoadRect (harg1.unread x1))) (k0_pay22 (View.readAt (Elt Ideal) arg1.view (Rect.unit (s := S8x4096x512) ![0, 0, 0] S8x4096x512.size inb_S8x4096x512_S8x4096x512_0_0_0).toLoadRect (harg1.unread x1)))⟩]) (arg7.view.writes (Elt Ideal) arg7.view.junk [⟨(Rect.unit (s := S8x2x32) ![0, 0, 0] S8x2x32.size inb_S8x2x32_S8x2x32_0_0_0), k0_pay25 (k0_pay22 (View.readAt (Elt Ideal) arg1.view (Rect.unit (s := S8x4096x512) ![0, 0, 0] S8x4096x512.size inb_S8x4096x512_S8x4096x512_0_0_0).toLoadRect (harg1.unread x1)))⟩]) (arg8.view.writes (Elt Ideal) arg8.view.junk [⟨(Rect.unit (s := S8x2x4096x256) ![0, 0, 0, 0] S8x2x4096x256.size inb_S8x2x4096x256_S8x2x4096x256_0_0_0_0), k0_pay31 (k0_pay26 (View.readAt (Elt Ideal) arg2.view (Rect.unit (s := S8x4096x512) ![0, 0, 0] S8x4096x512.size inb_S8x4096x512_S8x4096x512_0_0_0).toLoadRect (harg2.unread x2))) (k0_pay27 (View.readAt (Elt Ideal) arg2.view (Rect.unit (s := S8x4096x512) ![0, 0, 0] S8x4096x512.size inb_S8x4096x512_S8x4096x512_0_0_0).toLoadRect (harg2.unread x2))) (k0_pay28 (View.readAt (Elt Ideal) arg2.view (Rect.unit (s := S8x4096x512) ![0, 0, 0] S8x4096x512.size inb_S8x4096x512_S8x4096x512_0_0_0).toLoadRect (harg2.unread x2))) k0_pay29⟩]) (arg9.view.writes (Elt Ideal) arg9.view.junk [⟨(Rect.unit (s := S8x2x32) ![0, 0, 0] S8x2x32.size inb_S8x2x32_S8x2x32_0_0_0), k0_pay32 (k0_pay27 (View.readAt (Elt Ideal) arg2.view (Rect.unit (s := S8x4096x512) ![0, 0, 0] S8x4096x512.size inb_S8x4096x512_S8x4096x512_0_0_0).toLoadRect (harg2.unread x2))) (k0_pay28 (View.readAt (Elt Ideal) arg2.view (Rect.unit (s := S8x4096x512) ![0, 0, 0] S8x4096x512.size inb_S8x4096x512_S8x4096x512_0_0_0).toLoadRect (harg2.unread x2))) k0_pay29⟩]) (k0_pay4, k0_pay5, k0_pay6) (Scf.trips k0_t1_loop.lb k0_t1_loop.ub k0_t1_loop.st)).2.1
    (st_k0_t1 (F := Ideal) Variants.none c none arg0 harg0 arg1 harg1 arg2 harg2 arg3 harg3 arg4 harg4 arg5 harg5 arg6 harg6 arg7 harg7 arg8 harg8 arg9 harg9 (k0_pay19 (View.readAt (Elt Ideal) arg0.view (Rect.unit (s := S8x4096x4096) ![0, 0, 0] S8x4096x4096.size inb_S8x4096x4096_S8x4096x4096_0_0_0).toLoadRect (harg0.unread x0))) (k0_pay20 (View.readAt (Elt Ideal) arg0.view (Rect.unit (s := S8x4096x4096) ![0, 0, 0] S8x4096x4096.size inb_S8x4096x4096_S8x4096x4096_0_0_0).toLoadRect (harg0.unread x0))) keyPos (arg6.view.writes (Elt Ideal) arg6.view.junk [⟨(Rect.unit (s := S8x2x4096x256) ![0, 0, 0, 0] S8x2x4096x256.size inb_S8x2x4096x256_S8x2x4096x256_0_0_0_0), k0_pay24 (k0_pay21 (View.readAt (Elt Ideal) arg1.view (Rect.unit (s := S8x4096x512) ![0, 0, 0] S8x4096x512.size inb_S8x4096x512_S8x4096x512_0_0_0).toLoadRect (harg1.unread x1))) (k0_pay22 (View.readAt (Elt Ideal) arg1.view (Rect.unit (s := S8x4096x512) ![0, 0, 0] S8x4096x512.size inb_S8x4096x512_S8x4096x512_0_0_0).toLoadRect (harg1.unread x1)))⟩]) (arg7.view.writes (Elt Ideal) arg7.view.junk [⟨(Rect.unit (s := S8x2x32) ![0, 0, 0] S8x2x32.size inb_S8x2x32_S8x2x32_0_0_0), k0_pay25 (k0_pay22 (View.readAt (Elt Ideal) arg1.view (Rect.unit (s := S8x4096x512) ![0, 0, 0] S8x4096x512.size inb_S8x4096x512_S8x4096x512_0_0_0).toLoadRect (harg1.unread x1)))⟩]) (arg8.view.writes (Elt Ideal) arg8.view.junk [⟨(Rect.unit (s := S8x2x4096x256) ![0, 0, 0, 0] S8x2x4096x256.size inb_S8x2x4096x256_S8x2x4096x256_0_0_0_0), k0_pay31 (k0_pay26 (View.readAt (Elt Ideal) arg2.view (Rect.unit (s := S8x4096x512) ![0, 0, 0] S8x4096x512.size inb_S8x4096x512_S8x4096x512_0_0_0).toLoadRect (harg2.unread x2))) (k0_pay27 (View.readAt (Elt Ideal) arg2.view (Rect.unit (s := S8x4096x512) ![0, 0, 0] S8x4096x512.size inb_S8x4096x512_S8x4096x512_0_0_0).toLoadRect (harg2.unread x2))) (k0_pay28 (View.readAt (Elt Ideal) arg2.view (Rect.unit (s := S8x4096x512) ![0, 0, 0] S8x4096x512.size inb_S8x4096x512_S8x4096x512_0_0_0).toLoadRect (harg2.unread x2))) k0_pay29⟩]) (arg9.view.writes (Elt Ideal) arg9.view.junk [⟨(Rect.unit (s := S8x2x32) ![0, 0, 0] S8x2x32.size inb_S8x2x32_S8x2x32_0_0_0), k0_pay32 (k0_pay27 (View.readAt (Elt Ideal) arg2.view (Rect.unit (s := S8x4096x512) ![0, 0, 0] S8x4096x512.size inb_S8x4096x512_S8x4096x512_0_0_0).toLoadRect (harg2.unread x2))) (k0_pay28 (View.readAt (Elt Ideal) arg2.view (Rect.unit (s := S8x4096x512) ![0, 0, 0] S8x4096x512.size inb_S8x4096x512_S8x4096x512_0_0_0).toLoadRect (harg2.unread x2))) k0_pay29⟩]) (k0_pay4, k0_pay5, k0_pay6) (Scf.trips k0_t1_loop.lb k0_t1_loop.ub k0_t1_loop.st)).2.2⟩] := by
  unfold kernelRun0_A; dsimp only; rfl

/-- The queries' codes as the body computes them. -/
theorem val4 : k0_pay19 (View.readAt (Elt Ideal) arg0.view (Rect.unit (s := S8x4096x4096) ![0, 0, 0] S8x4096x4096.size inb_S8x4096x4096_S8x4096x4096_0_0_0).toLoadRect (harg0.unread x0)) = codes16 x0 := by
  rw [load_S8x4096x4096bf16, pay19_eq, rcodes16_eq]
/-- The queries' codes as the body leaves them. -/
theorem out4_eq : out0_A_4 (F := Ideal) c arg0 harg0 arg1 harg1 arg2 harg2 arg3 harg3 arg4 harg4 arg5 harg5 arg6 harg6 arg7 harg7 arg8 harg8 arg9 harg9 x0 x1 x2 = codes16 x0 := by
  unfold out0_A_4
  rw [pieces4, store_S8x16x4096x256fp8e4m3]
  exact val4 arg0 harg0 x0
/-- The queries' scales as the body computes them. -/
theorem val5 : k0_pay20 (View.readAt (Elt Ideal) arg0.view (Rect.unit (s := S8x4096x4096) ![0, 0, 0] S8x4096x4096.size inb_S8x4096x4096_S8x4096x4096_0_0_0).toLoadRect (harg0.unread x0)) = scales16 x0 := by
  rw [load_S8x4096x4096bf16, pay20_eq, rscales16_eq]
/-- The queries' scales as the body leaves them. -/
theorem out5_eq : out0_A_5 (F := Ideal) c arg0 harg0 arg1 harg1 arg2 harg2 arg3 harg3 arg4 harg4 arg5 harg5 arg6 harg6 arg7 harg7 arg8 harg8 arg9 harg9 x0 x1 x2 = scales16 x0 := by
  unfold out0_A_5
  rw [pieces5, store_S8x16x32f32]
  exact val5 arg0 harg0 x0
/-- The keys' codes as the body computes them. -/
theorem val6 : k0_pay24 (k0_pay21 (View.readAt (Elt Ideal) arg1.view (Rect.unit (s := S8x4096x512) ![0, 0, 0] S8x4096x512.size inb_S8x4096x512_S8x4096x512_0_0_0).toLoadRect (harg1.unread x1))) (k0_pay22 (View.readAt (Elt Ideal) arg1.view (Rect.unit (s := S8x4096x512) ![0, 0, 0] S8x4096x512.size inb_S8x4096x512_S8x4096x512_0_0_0).toLoadRect (harg1.unread x1))) = codes2 x1 := by
  rw [load_S8x4096x512bf16, pay24_eq, rcodes2_eq]
/-- The keys' codes as the body leaves them. -/
theorem out6_eq : out0_A_6 (F := Ideal) c arg0 harg0 arg1 harg1 arg2 harg2 arg3 harg3 arg4 harg4 arg5 harg5 arg6 harg6 arg7 harg7 arg8 harg8 arg9 harg9 x0 x1 x2 = codes2 x1 := by
  unfold out0_A_6
  rw [pieces6, store_S8x2x4096x256fp8e4m3]
  exact val6 arg1 harg1 x1
/-- The keys' scales as the body computes them. -/
theorem val7 : k0_pay25 (k0_pay22 (View.readAt (Elt Ideal) arg1.view (Rect.unit (s := S8x4096x512) ![0, 0, 0] S8x4096x512.size inb_S8x4096x512_S8x4096x512_0_0_0).toLoadRect (harg1.unread x1))) = scales2 x1 := by
  rw [load_S8x4096x512bf16, pay25_eq, rscales2_eq]
/-- The keys' scales as the body leaves them. -/
theorem out7_eq : out0_A_7 (F := Ideal) c arg0 harg0 arg1 harg1 arg2 harg2 arg3 harg3 arg4 harg4 arg5 harg5 arg6 harg6 arg7 harg7 arg8 harg8 arg9 harg9 x0 x1 x2 = scales2 x1 := by
  unfold out0_A_7
  rw [pieces7, store_S8x2x32f32]
  exact val7 arg1 harg1 x1
/-- The values' codes as the body computes them. -/
theorem val8 : k0_pay31 (k0_pay26 (View.readAt (Elt Ideal) arg2.view (Rect.unit (s := S8x4096x512) ![0, 0, 0] S8x4096x512.size inb_S8x4096x512_S8x4096x512_0_0_0).toLoadRect (harg2.unread x2))) (k0_pay27 (View.readAt (Elt Ideal) arg2.view (Rect.unit (s := S8x4096x512) ![0, 0, 0] S8x4096x512.size inb_S8x4096x512_S8x4096x512_0_0_0).toLoadRect (harg2.unread x2))) (k0_pay28 (View.readAt (Elt Ideal) arg2.view (Rect.unit (s := S8x4096x512) ![0, 0, 0] S8x4096x512.size inb_S8x4096x512_S8x4096x512_0_0_0).toLoadRect (harg2.unread x2))) k0_pay29 = codes2 x2 := by
  rw [load_S8x4096x512bf16, pay31_eq, rcodes2_eq]
/-- The values' codes as the body leaves them. -/
theorem out8_eq : out0_A_8 (F := Ideal) c arg0 harg0 arg1 harg1 arg2 harg2 arg3 harg3 arg4 harg4 arg5 harg5 arg6 harg6 arg7 harg7 arg8 harg8 arg9 harg9 x0 x1 x2 = codes2 x2 := by
  unfold out0_A_8
  rw [pieces8, store_S8x2x4096x256fp8e4m3]
  exact val8 arg2 harg2 x2
/-- The values' scales as the body computes them. -/
theorem val9 : k0_pay32 (k0_pay27 (View.readAt (Elt Ideal) arg2.view (Rect.unit (s := S8x4096x512) ![0, 0, 0] S8x4096x512.size inb_S8x4096x512_S8x4096x512_0_0_0).toLoadRect (harg2.unread x2))) (k0_pay28 (View.readAt (Elt Ideal) arg2.view (Rect.unit (s := S8x4096x512) ![0, 0, 0] S8x4096x512.size inb_S8x4096x512_S8x4096x512_0_0_0).toLoadRect (harg2.unread x2))) k0_pay29 = scales2 x2 := by
  rw [load_S8x4096x512bf16, pay32_eq, rscales2_eq]
/-- The values' scales as the body leaves them. -/
theorem out9_eq : out0_A_9 (F := Ideal) c arg0 harg0 arg1 harg1 arg2 harg2 arg3 harg3 arg4 harg4 arg5 harg5 arg6 harg6 arg7 harg7 arg8 harg8 arg9 harg9 x0 x1 x2 = scales2 x2 := by
  unfold out0_A_9
  rw [pieces9, store_S8x2x32f32]
  exact val9 arg2 harg2 x2
/-- The attention as the body leaves it. -/
theorem out3_eq : out0_A_3 (F := Ideal) c arg0 harg0 arg1 harg1 arg2 harg2 arg3 harg3 arg4 harg4 arg5 harg5 arg6 harg6 arg7 harg7 arg8 harg8 arg9 harg9 x0 x1 x2 = att x0 x1 x2 := by
  unfold out0_A_3
  rw [pieces3, store_S8x4096x4096bf16]
  refine funext fun y => ?_
  obtain ⟨b, i, q, g, h, d, rfl⟩ := split_att y
  have H := st_holds Variants.none c none arg0 harg0 arg1 harg1 arg2 harg2 arg3 harg3 arg4 harg4 arg5 harg5 arg6 harg6 arg7 harg7 arg8 harg8 arg9 harg9 (k0_pay19 (View.readAt (Elt Ideal) arg0.view (Rect.unit (s := S8x4096x4096) ![0, 0, 0] S8x4096x4096.size inb_S8x4096x4096_S8x4096x4096_0_0_0).toLoadRect (harg0.unread x0))) (k0_pay20 (View.readAt (Elt Ideal) arg0.view (Rect.unit (s := S8x4096x4096) ![0, 0, 0] S8x4096x4096.size inb_S8x4096x4096_S8x4096x4096_0_0_0).toLoadRect (harg0.unread x0))) (arg6.view.writes (Elt Ideal) arg6.view.junk [⟨(Rect.unit (s := S8x2x4096x256) ![0, 0, 0, 0] S8x2x4096x256.size inb_S8x2x4096x256_S8x2x4096x256_0_0_0_0), k0_pay24 (k0_pay21 (View.readAt (Elt Ideal) arg1.view (Rect.unit (s := S8x4096x512) ![0, 0, 0] S8x4096x512.size inb_S8x4096x512_S8x4096x512_0_0_0).toLoadRect (harg1.unread x1))) (k0_pay22 (View.readAt (Elt Ideal) arg1.view (Rect.unit (s := S8x4096x512) ![0, 0, 0] S8x4096x512.size inb_S8x4096x512_S8x4096x512_0_0_0).toLoadRect (harg1.unread x1)))⟩]) (arg7.view.writes (Elt Ideal) arg7.view.junk [⟨(Rect.unit (s := S8x2x32) ![0, 0, 0] S8x2x32.size inb_S8x2x32_S8x2x32_0_0_0), k0_pay25 (k0_pay22 (View.readAt (Elt Ideal) arg1.view (Rect.unit (s := S8x4096x512) ![0, 0, 0] S8x4096x512.size inb_S8x4096x512_S8x4096x512_0_0_0).toLoadRect (harg1.unread x1)))⟩]) (arg8.view.writes (Elt Ideal) arg8.view.junk [⟨(Rect.unit (s := S8x2x4096x256) ![0, 0, 0, 0] S8x2x4096x256.size inb_S8x2x4096x256_S8x2x4096x256_0_0_0_0), k0_pay31 (k0_pay26 (View.readAt (Elt Ideal) arg2.view (Rect.unit (s := S8x4096x512) ![0, 0, 0] S8x4096x512.size inb_S8x4096x512_S8x4096x512_0_0_0).toLoadRect (harg2.unread x2))) (k0_pay27 (View.readAt (Elt Ideal) arg2.view (Rect.unit (s := S8x4096x512) ![0, 0, 0] S8x4096x512.size inb_S8x4096x512_S8x4096x512_0_0_0).toLoadRect (harg2.unread x2))) (k0_pay28 (View.readAt (Elt Ideal) arg2.view (Rect.unit (s := S8x4096x512) ![0, 0, 0] S8x4096x512.size inb_S8x4096x512_S8x4096x512_0_0_0).toLoadRect (harg2.unread x2))) k0_pay29⟩]) (arg9.view.writes (Elt Ideal) arg9.view.junk [⟨(Rect.unit (s := S8x2x32) ![0, 0, 0] S8x2x32.size inb_S8x2x32_S8x2x32_0_0_0), k0_pay32 (k0_pay27 (View.readAt (Elt Ideal) arg2.view (Rect.unit (s := S8x4096x512) ![0, 0, 0] S8x4096x512.size inb_S8x4096x512_S8x4096x512_0_0_0).toLoadRect (harg2.unread x2))) (k0_pay28 (View.readAt (Elt Ideal) arg2.view (Rect.unit (s := S8x4096x512) ![0, 0, 0] S8x4096x512.size inb_S8x4096x512_S8x4096x512_0_0_0).toLoadRect (harg2.unread x2))) k0_pay29⟩])
    x0 x1 x2 (val4 arg0 harg0 x0) (val5 arg0 harg0 x0) ((store_S8x2x4096x256fp8e4m3 _ _).trans (val6 arg1 harg1 x1)) ((store_S8x2x32f32 _ _).trans (val7 arg1 harg1 x1)) ((store_S8x2x4096x256fp8e4m3 _ _).trans (val8 arg2 harg2 x2)) ((store_S8x2x32f32 _ _).trans (val9 arg2 harg2 x2)) b g h i 32 le_rfl
  have e : Scf.trips k0_t1_loop.lb k0_t1_loop.ub k0_t1_loop.st = 32 := trips_eq
  rw [e, pay9_apply, H.l, H.a]
  exact (att_row x0 x1 x2 b g h i q d).symm
end
end Cert.Ref
end
-- ==== Proof.RefVal.lean ====
/-
  The reference's results, as functions of its arguments.
-/
module

public import proofs.«01_k».proof.Proof.RefOut
public import proofs.«01_k».proof.Proof.Gen.ReferenceIdeal.Value
public import Idealize.ShloMosaic.Lib.Pipeline.ValueKit
public import Idealize.ShloMosaic.Lib.Pipeline.Covers
import all proofs.«01_k».proof.Proof.Gen.ReferenceIdeal.Frame

@[expose] public section

set_option maxRecDepth 16384

noncomputable section

namespace Cert.RVal

open Idealize.ShloMosaic Idealize.ShloMosaic.TcCoe Cert.ReferenceIdeal Cert.ReferenceIdeal.Gen Cert.Spec Cert.Att Cert.Ref Idealize.SL.Sem

variable (m : (ℓ : Loc nD τ sig) → Buf (Elt Ideal) ℓ) (ρ : Dev nD → PrngReg) (c : Dev nD)

/-- The queries, the keys and the values of the call. -/
abbrev qIn : Vec Ideal S8x4096x4096 .bf16 := m ((c.tc : Thread nD τ).loc main_arg0)
abbrev kIn : Vec Ideal S8x4096x512 .bf16 := m ((c.tc : Thread nD τ).loc main_arg1)
abbrev vIn : Vec Ideal S8x4096x512 .bf16 := m ((c.tc : Thread nD τ).loc main_arg2)

/-! Every window is a whole array. -/
theorem idx0 : ∀ t : Fin grid0.N, win0_0.index t = ![0, 0, 0] := by decide +kernel
theorem idx1 : ∀ t : Fin grid0.N, win0_1.index t = ![0, 0, 0] := by decide +kernel
theorem idx2 : ∀ t : Fin grid0.N, win0_2.index t = ![0, 0, 0] := by decide +kernel
theorem idx3 : ∀ t : Fin grid0.N, win0_3.index t = ![0, 0, 0] := by decide +kernel
theorem idx4 : ∀ t : Fin grid0.N, win0_4.index t = ![0, 0, 0, 0] := by decide +kernel
theorem idx5 : ∀ t : Fin grid0.N, win0_5.index t = ![0, 0, 0] := by decide +kernel
theorem idx6 : ∀ t : Fin grid0.N, win0_6.index t = ![0, 0, 0, 0] := by decide +kernel
theorem idx7 : ∀ t : Fin grid0.N, win0_7.index t = ![0, 0, 0] := by decide +kernel
theorem idx8 : ∀ t : Fin grid0.N, win0_8.index t = ![0, 0, 0, 0] := by decide +kernel
theorem idx9 : ∀ t : Fin grid0.N, win0_9.index t = ![0, 0, 0] := by decide +kernel
theorem in0 (t : Fin cfg0.N) : iblk m c 0 t = qIn m c := by
  refine funext fun (y : S8x4096x4096.Idx) => ?_
  rw [eq_ix3 y]
  blk_ext [iblk, idx0 t]
theorem in1 (t : Fin cfg0.N) : iblk m c 1 t = kIn m c := by
  refine funext fun (y : S8x4096x512.Idx) => ?_
  rw [eq_ix3 y]
  blk_ext [iblk, idx1 t]
theorem in2 (t : Fin cfg0.N) : iblk m c 2 t = vIn m c := by
  refine funext fun (y : S8x4096x512.Idx) => ?_
  rw [eq_ix3 y]
  blk_ext [iblk, idx2 t]

theorem emb3 (t : Fin cfg0.N) (y : S8x4096x4096.Idx) : ((cfg0.win 3).blk t).view.emb (ix3 (y 0) (y 1) (y 2)) = (ix3 (y 0) (y 1) (y 2)) := by
  blk_ext [idx3 t]
theorem cov3 : (cfg0.win 3).Covers := by
  refine (cfg0.win 3).covers_of_index_surj rfl (by decide) fun β => ?_
  refine ⟨⟨0, by decide⟩, fun a => (congrFun (idx3 _) a).trans ?_⟩
  match a with | 0 => (have := (β 0).isLt; exact (Nat.lt_one_iff.mp this).symm) | 1 => (have := (β 1).isLt; exact (Nat.lt_one_iff.mp this).symm) | 2 => (have := (β 2).isLt; exact (Nat.lt_one_iff.mp this).symm)
theorem arr3 : (dats m 0 c).arrAt 3 cfg0.N = att (qIn m c) (kIn m c) (vIn m c) := by
  refine (dats m 0 c).arrAt_eq_of_covers 3 _ cov3 fun t hf (y : S8x4096x4096.Idx) => ?_
  blk_simp
  rw [after0_3]
  unfold outsAt0
  dsimp only
  rw [out3_eq, in0, in1, in2, eq_ix3 y]
  exact congrArg (att (qIn m c) (kIn m c) (vIn m c)) (emb3 t y).symm

theorem emb4 (t : Fin cfg0.N) (y : S8x16x4096x256.Idx) : ((cfg0.win 4).blk t).view.emb (ix4 (y 0) (y 1) (y 2) (y 3)) = (ix4 (y 0) (y 1) (y 2) (y 3)) := by
  blk_ext [idx4 t]
theorem cov4 : (cfg0.win 4).Covers := by
  refine (cfg0.win 4).covers_of_index_surj rfl (by decide) fun β => ?_
  refine ⟨⟨0, by decide⟩, fun a => (congrFun (idx4 _) a).trans ?_⟩
  match a with | 0 => (have := (β 0).isLt; exact (Nat.lt_one_iff.mp this).symm) | 1 => (have := (β 1).isLt; exact (Nat.lt_one_iff.mp this).symm) | 2 => (have := (β 2).isLt; exact (Nat.lt_one_iff.mp this).symm) | 3 => (have := (β 3).isLt; exact (Nat.lt_one_iff.mp this).symm)
theorem arr4 : (dats m 0 c).arrAt 4 cfg0.N = codes16 (qIn m c) := by
  refine (dats m 0 c).arrAt_eq_of_covers 4 _ cov4 fun t hf (y : S8x16x4096x256.Idx) => ?_
  blk_simp
  rw [after0_4]
  unfold outsAt0
  dsimp only
  rw [out4_eq, in0, eq_ix4 y]
  exact congrArg (codes16 (qIn m c)) (emb4 t y).symm

theorem emb5 (t : Fin cfg0.N) (y : S8x16x32.Idx) : ((cfg0.win 5).blk t).view.emb (ix3 (y 0) (y 1) (y 2)) = (ix3 (y 0) (y 1) (y 2)) := by
  blk_ext [idx5 t]
theorem cov5 : (cfg0.win 5).Covers := by
  refine (cfg0.win 5).covers_of_index_surj rfl (by decide) fun β => ?_
  refine ⟨⟨0, by decide⟩, fun a => (congrFun (idx5 _) a).trans ?_⟩
  match a with | 0 => (have := (β 0).isLt; exact (Nat.lt_one_iff.mp this).symm) | 1 => (have := (β 1).isLt; exact (Nat.lt_one_iff.mp this).symm) | 2 => (have := (β 2).isLt; exact (Nat.lt_one_iff.mp this).symm)
theorem arr5 : (dats m 0 c).arrAt 5 cfg0.N = scales16 (qIn m c) := by
  refine (dats m 0 c).arrAt_eq_of_covers 5 _ cov5 fun t hf (y : S8x16x32.Idx) => ?_
  blk_simp
  rw [after0_5]
  unfold outsAt0
  dsimp only
  rw [out5_eq, in0, eq_ix3 y]
  exact congrArg (scales16 (qIn m c)) (emb5 t y).symm

theorem emb6 (t : Fin cfg0.N) (y : S8x2x4096x256.Idx) : ((cfg0.win 6).blk t).view.emb (ix4 (y 0) (y 1) (y 2) (y 3)) = (ix4 (y 0) (y 1) (y 2) (y 3)) := by
  blk_ext [idx6 t]
theorem cov6 : (cfg0.win 6).Covers := by
  refine (cfg0.win 6).covers_of_index_surj rfl (by decide) fun β => ?_
  refine ⟨⟨0, by decide⟩, fun a => (congrFun (idx6 _) a).trans ?_⟩
  match a with | 0 => (have := (β 0).isLt; exact (Nat.lt_one_iff.mp this).symm) | 1 => (have := (β 1).isLt; exact (Nat.lt_one_iff.mp this).symm) | 2 => (have := (β 2).isLt; exact (Nat.lt_one_iff.mp this).symm) | 3 => (have := (β 3).isLt; exact (Nat.lt_one_iff.mp this).symm)
theorem arr6 : (dats m 0 c).arrAt 6 cfg0.N = codes2 (kIn m c) := by
  refine (dats m 0 c).arrAt_eq_of_covers 6 _ cov6 fun t hf (y : S8x2x4096x256.Idx) => ?_
  blk_simp
  rw [after0_6]
  unfold outsAt0
  dsimp only
  rw [out6_eq, in1, eq_ix4 y]
  exact congrArg (codes2 (kIn m c)) (emb6 t y).symm

theorem emb7 (t : Fin cfg0.N) (y : S8x2x32.Idx) : ((cfg0.win 7).blk t).view.emb (ix3 (y 0) (y 1) (y 2)) = (ix3 (y 0) (y 1) (y 2)) := by
  blk_ext [idx7 t]
theorem cov7 : (cfg0.win 7).Covers := by
  refine (cfg0.win 7).covers_of_index_surj rfl (by decide) fun β => ?_
  refine ⟨⟨0, by decide⟩, fun a => (congrFun (idx7 _) a).trans ?_⟩
  match a with | 0 => (have := (β 0).isLt; exact (Nat.lt_one_iff.mp this).symm) | 1 => (have := (β 1).isLt; exact (Nat.lt_one_iff.mp this).symm) | 2 => (have := (β 2).isLt; exact (Nat.lt_one_iff.mp this).symm)
theorem arr7 : (dats m 0 c).arrAt 7 cfg0.N = scales2 (kIn m c) := by
  refine (dats m 0 c).arrAt_eq_of_covers 7 _ cov7 fun t hf (y : S8x2x32.Idx) => ?_
  blk_simp
  rw [after0_7]
  unfold outsAt0
  dsimp only
  rw [out7_eq, in1, eq_ix3 y]
  exact congrArg (scales2 (kIn m c)) (emb7 t y).symm

theorem emb8 (t : Fin cfg0.N) (y : S8x2x4096x256.Idx) : ((cfg0.win 8).blk t).view.emb (ix4 (y 0) (y 1) (y 2) (y 3)) = (ix4 (y 0) (y 1) (y 2) (y 3)) := by
  blk_ext [idx8 t]
theorem cov8 : (cfg0.win 8).Covers := by
  refine (cfg0.win 8).covers_of_index_surj rfl (by decide) fun β => ?_
  refine ⟨⟨0, by decide⟩, fun a => (congrFun (idx8 _) a).trans ?_⟩
  match a with | 0 => (have := (β 0).isLt; exact (Nat.lt_one_iff.mp this).symm) | 1 => (have := (β 1).isLt; exact (Nat.lt_one_iff.mp this).symm) | 2 => (have := (β 2).isLt; exact (Nat.lt_one_iff.mp this).symm) | 3 => (have := (β 3).isLt; exact (Nat.lt_one_iff.mp this).symm)
theorem arr8 : (dats m 0 c).arrAt 8 cfg0.N = codes2 (vIn m c) := by
  refine (dats m 0 c).arrAt_eq_of_covers 8 _ cov8 fun t hf (y : S8x2x4096x256.Idx) => ?_
  blk_simp
  rw [after0_8]
  unfold outsAt0
  dsimp only
  rw [out8_eq, in2, eq_ix4 y]
  exact congrArg (codes2 (vIn m c)) (emb8 t y).symm

theorem emb9 (t : Fin cfg0.N) (y : S8x2x32.Idx) : ((cfg0.win 9).blk t).view.emb (ix3 (y 0) (y 1) (y 2)) = (ix3 (y 0) (y 1) (y 2)) := by
  blk_ext [idx9 t]
theorem cov9 : (cfg0.win 9).Covers := by
  refine (cfg0.win 9).covers_of_index_surj rfl (by decide) fun β => ?_
  refine ⟨⟨0, by decide⟩, fun a => (congrFun (idx9 _) a).trans ?_⟩
  match a with | 0 => (have := (β 0).isLt; exact (Nat.lt_one_iff.mp this).symm) | 1 => (have := (β 1).isLt; exact (Nat.lt_one_iff.mp this).symm) | 2 => (have := (β 2).isLt; exact (Nat.lt_one_iff.mp this).symm)
theorem arr9 : (dats m 0 c).arrAt 9 cfg0.N = scales2 (vIn m c) := by
  refine (dats m 0 c).arrAt_eq_of_covers 9 _ cov9 fun t hf (y : S8x2x32.Idx) => ?_
  blk_simp
  rw [after0_9]
  unfold outsAt0
  dsimp only
  rw [out9_eq, in2, eq_ix3 y]
  exact congrArg (scales2 (vIn m c)) (emb9 t y).symm

/-- The reference's run: the attention, the codes and the scales, each the function of the arguments that `Spec` and `Att` write. -/
theorem run : θ_run defs (onTc (τ := τ) (main (F := Ideal))) ⟨m, fun _ => 0, ρ⟩ (fun r => ∀ c : Dev nD,
      r.2.mem ((c.tc : Thread nD τ).loc main_v0_0) = att (qIn m c) (kIn m c) (vIn m c)
      ∧ r.2.mem ((c.tc : Thread nD τ).loc main_v0_1) = codes16 (qIn m c)
      ∧ r.2.mem ((c.tc : Thread nD τ).loc main_v0_2) = scales16 (qIn m c)
      ∧ r.2.mem ((c.tc : Thread nD τ).loc main_v0_3) = codes2 (kIn m c)
      ∧ r.2.mem ((c.tc : Thread nD τ).loc main_v0_4) = scales2 (kIn m c)
      ∧ r.2.mem ((c.tc : Thread nD τ).loc main_v0_5) = codes2 (vIn m c)
      ∧ r.2.mem ((c.tc : Thread nD τ).loc main_v0_6) = scales2 (vIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨h0, h1, h2, h3, h4, h5, h6, h7⟩ := h c
    exact ⟨h0.trans (arr3 m c), h1.trans (arr4 m c), h2.trans (arr5 m c), h3.trans (arr6 m c), h4.trans (arr7 m c), h5.trans (arr8 m c), h6.trans (arr9 m c), h7⟩) (Value.run_blocks m ρ)

end Cert.RVal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KVal
public import proofs.«01_k».proof.Proof.RefVal
public import Idealize.ShloMosaic.Adequacy
public import Idealize.ShloMosaic.Init

@[expose] public section

noncomputable section

namespace Cert.Proof

open Idealize.ShloMosaic Idealize.SL.Sem Cert.Kernel

/-- The kernel and the reference end with the same results: the attention, the codes and the scales of the arguments. -/
theorem algebraic : algebraic_KernelIdeal_ReferenceIdeal (hKernelIdeal := Cert.KernelIdeal.Gen.facts) (hReferenceIdeal := Cert.ReferenceIdeal.Gen.facts) := by
  intro m g m' g' _ hin
  refine ⟨fun c => Att.att (KVal.qIn m c) (KVal.kIn m c) (KVal.vIn m c), fun c => Spec.codes16 (KVal.qIn m c), fun c => Spec.scales16 (KVal.qIn m c),
    fun c => Spec.codes2 (KVal.kIn m c), fun c => Spec.scales2 (KVal.kIn m c), fun c => Spec.codes2 (KVal.vIn m c), fun c => Spec.scales2 (KVal.vIn m c),
    KVal.run m g, ?_⟩
  refine (θ_run Cert.ReferenceIdeal.defs _ _).mono (fun r h c => ?_) (RVal.run m' g')
  obtain ⟨h0, h1, h2, h3, h4, h5, h6, h7⟩ := h c
  obtain ⟨eq, ek, ev⟩ := hin c
  have eq' : RVal.qIn m' c = KVal.qIn m c := eq
  have ek' : RVal.kIn m' c = KVal.kIn m c := ek
  have ev' : RVal.vIn m' c = KVal.vIn m c := ev
  rw [eq', ek', ev'] at h0
  rw [eq'] at h1 h2
  rw [ek'] at h3 h4
  rw [ev'] at h5 h6
  exact ⟨h0, h1, h2, h3, h4, h5, h6, h7⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  IdealRules.named_const.statement _ _ _ _ _ rfl, algebraic⟩

end Cert.Proof

end
